-- ==== Defs.lean ====
def Pre_Kernel [hPre_perm_in_columns : Cert.Pre_perm_in_columns.Facts] (m : (ℓ : Loc Cert.Kernel.nD Cert.Kernel.τ Cert.Kernel.sig) → Buf (Elt Bits) ℓ) : Prop :=
  ∀ c : Dev Cert.Kernel.nD,
    (Cert.Pre_perm_in_columns.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_perm_in_columns : Cert.Pre_perm_in_columns.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_in_columns [hPre_perm_in_columns : Cert.Pre_perm_in_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_in_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_perm_in_columns : Cert.Pre_perm_in_columns.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_perm_in_columns : Cert.Pre_perm_in_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_in_columns [hReferenceIdeal : Cert.ReferenceIdeal.Facts] [hPre_perm_in_columns : Cert.Pre_perm_in_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_in_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_in_columns : Cert.Pre_perm_in_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_perm_in_columns : Cert.Pre_perm_in_columns.Facts),
    quiescent_Kernel (hKernel := hKernel) (hPre_perm_in_columns := hPre_perm_in_columns)
    ∧ quiescent_KernelIdeal (hKernelIdeal := hKernelIdeal) (hPre_perm_in_columns := hPre_perm_in_columns)
    ∧ quiescent_ReferenceIdeal (hReferenceIdeal := hReferenceIdeal)
    ∧ quiescent_ReferenceIdeal_pre_perm_in_columns (hReferenceIdeal := hReferenceIdeal) (hPre_perm_in_columns := hPre_perm_in_columns)
    ∧ preserves_Kernel_KernelIdeal
    ∧ algebraic_KernelIdeal_ReferenceIdeal (hKernelIdeal := hKernelIdeal) (hReferenceIdeal := hReferenceIdeal) (hPre_perm_in_columns := hPre_perm_in_columns)
-- ==== Pre_perm_in_columns.lean ====
abbrev S16384x2048 : Shape := ⟨2, ![16384, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S16384x2048 .f32) (main_arg1 : IVec S2048 32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 2048#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  main_v5
-- ==== Kernel.lean ====
abbrev S16384x2048 : Shape := ⟨2, ![16384, 2048]⟩
abbrev S2048 : Shape := ⟨1, ![2048]⟩
abbrev S16384 : Shape := ⟨1, ![16384]⟩
abbrev S512 : Shape := ⟨1, ![512]⟩
abbrev S4x2048 : Shape := ⟨2, ![4, 2048]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 10
  | _ => 0

abbrev bufTy : (tb : Table) → Fin (nBuf tb) → BufTy
  | .hbm, ⟨0, _⟩ => ⟨S16384x2048, .f32⟩
  | .hbm, ⟨1, _⟩ => ⟨S2048, .i32⟩
  | .hbm, ⟨2, _⟩ => ⟨S16384x2048, .f32⟩
  | .hbm, ⟨3, _⟩ => ⟨S16384, .f32⟩
  | .local .scVector .vmem, ⟨0, _⟩ => ⟨S2048, .i32⟩
  | .local .scVector .vmem, ⟨1, _⟩ => ⟨S512, .f32⟩
  | .local .scVector .vmem, ⟨2, _⟩ => ⟨S4x2048, .f32⟩
  | .local .scVector .vmem, ⟨3, _⟩ => ⟨S4x2048, .f32⟩
  | .local .scVector .vmem, ⟨4, _⟩ => ⟨S4x2048, .f32⟩
  | .local .scVector .vmem, ⟨5, _⟩ => ⟨S4x2048, .f32⟩
  | .local .scVector .vmem, ⟨6, _⟩ => ⟨S4x2048, .f32⟩
  | .local .scVector .vmem, ⟨7, _⟩ => ⟨S4x2048, .f32⟩
  | .local .scVector .vmem, ⟨8, _⟩ => ⟨S4x2048, .f32⟩
  | .local .scVector .vmem, ⟨9, _⟩ => ⟨S4x2048, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]
def k0_off1_at (r : Fin 8) : BitVec 32 :=
  if r.val < 4 then
    if r.val < 2 then
      if r.val < 1 then
        0#32
      else
        4#32
    else
      if r.val < 3 then
        8#32
      else
        12#32
  else
    if r.val < 6 then
      if r.val < 5 then
        496#32
      else
        500#32
    else
      if r.val < 7 then
        504#32
      else
        508#32
@[reducible] def k0_t1_loop : Scf.Loop 32 :=
  let c0_i32_9 : BitVec 32 := 0#32
  let c32_i32 : BitVec 32 := 32#32
  let v15 : BitVec 32 := Scalar.addi c0_i32_9 c32_i32
  let c1_i32 : BitVec 32 := 1#32
  ⟨c0_i32_9, v15, c1_i32⟩
def k0_off2 (k0_t1 : Fin k0_t1_loop.trips) : Fin 1 → Nat :=
  let c0_i32_9 : BitVec 32 := 0#32
  let c1_i32 : BitVec 32 := 1#32
  let arg24 : BitVec 32 := Scf.iv c0_i32_9 c1_i32 k0_t1
  let c16_i32 : BitVec 32 := 16#32
  let v30 : BitVec 32 := Scalar.muli arg24 c16_i32
  let v31 : Index := Scalar.indexCast v30
  ![v31.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t2_loop : Scf.Loop 32 :=
  let c0_i32_12 : BitVec 32 := 0#32
  let c32_i32_13 : BitVec 32 := 32#32
  let v16 : BitVec 32 := Scalar.addi c0_i32_12 c32_i32_13
  let c1_i32_14 : BitVec 32 := 1#32
  ⟨c0_i32_12, v16, c1_i32_14⟩
def k0_off4 (i : grid0.Coords) (k0_t2 : Fin k0_t2_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_24 : BitVec 32 := 4#32
  let c0_i32_12 : BitVec 32 := 0#32
  let c1_i32_14 : BitVec 32 := 1#32
  let arg24 : BitVec 32 := Scf.iv c0_i32_12 c1_i32_14 k0_t2
  let v29 : BitVec 32 := Scalar.muli c4_i32_24 arg24
  let v30 : BitVec 32 := Scalar.addi v29 c0_i32_25
  let c4_i32_26 : BitVec 32 := 4#32
  let v31 : BitVec 32 := Scalar.muli v30 c4_i32_26
  let v32 : BitVec 32 := Scalar.addi v2 v31
  let c0_i32_27 : BitVec 32 := 0#32
  ![v32.toNat, 0]
def k0_cond1 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c0_i32_29 : BitVec 32 := 0#32
  let v35 : BitVec 1 := Scalar.cmpi .sgt arg24 c0_i32_29
  let v36 : BitVec 32 := Scalar.extui v35
  let c0_i32_30 : BitVec 32 := 0#32
  let v37 : BitVec 1 := Scalar.cmpi .ne v36 c0_i32_30
  v37

def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_24 : BitVec 32 := 4#32
  let c0_i32_12 : BitVec 32 := 0#32
  let c1_i32_14 : BitVec 32 := 1#32
  let arg24 : BitVec 32 := Scf.iv c0_i32_12 c1_i32_14 k0_t2
  let v29 : BitVec 32 := Scalar.muli c4_i32_24 arg24
  let c0_i32_25 : BitVec 32 := 0#32
  let v30 : BitVec 32 := Scalar.addi v29 c0_i32_25
  let c4_i32_85 : BitVec 32 := 4#32
  let v97 : BitVec 32 := Scalar.subi v30 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
@[reducible] def k0_t3_loop : Scf.Loop 32 :=
  let c0_i32_31 : BitVec 32 := 0#32
  let c128_i32 : BitVec 32 := 128#32
  let v38 : BitVec 32 := Scalar.addi c0_i32_31 c128_i32
  let c1_i32_32 : BitVec 32 := 1#32
  ⟨c0_i32_31, v38, c1_i32_32⟩
def k0_off6 (k0_t3 : Fin k0_t3_loop.trips) : Fin 1 → Nat :=
  let c0_i32_86 : BitVec 32 := 0#32
  let c0_i32_31 : BitVec 32 := 0#32
  let c1_i32_32 : BitVec 32 := 1#32
  let arg25 : BitVec 32 := Scf.iv c0_i32_31 c1_i32_32 k0_t3
  let c1_i32_85 : BitVec 32 := 1#32
  let v97 : BitVec 32 := Scalar.muli arg25 c1_i32_85
  let v98 : BitVec 32 := Scalar.addi c0_i32_86 v97
  let c16_i32 : BitVec 32 := 16#32
  let v99 : BitVec 32 := Scalar.muli v98 c16_i32
  let v100 : Index := Scalar.indexCast v99
  ![v100.toNat]

def k0_chk1 (v101 : IVec S16 32) (v102 : IVec S16 32) : Prop :=
  (∀ a x, ((![v102, v101] : Fin 2 → IVec S16 32) a x).toNat < S4x2048.size a)
theorem k0_idx1_inb : ∀ (v101 : IVec S16 32) (v102 : IVec S16 32) (k0_hw1 : k0_chk1 v101 v102), ∀ a x, ((![v102, v101] : Fin 2 → IVec S16 32) a x).toNat < S4x2048.size a := fun v101 v102 k0_hw1 => k0_hw1
def k0_off7 (k0_t3 : Fin k0_t3_loop.trips) : Fin 2 → Nat :=
  let c0_i32_89 : BitVec 32 := 0#32
  let v105 : Index := Scalar.indexCast c0_i32_89
  let c0_i32_86 : BitVec 32 := 0#32
  let c0_i32_31 : BitVec 32 := 0#32
  let c1_i32_32 : BitVec 32 := 1#32
  let arg25 : BitVec 32 := Scf.iv c0_i32_31 c1_i32_32 k0_t3
  let c1_i32_85 : BitVec 32 := 1#32
  let v97 : BitVec 32 := Scalar.muli arg25 c1_i32_85
  let v98 : BitVec 32 := Scalar.addi c0_i32_86 v97
  let c16_i32_88 : BitVec 32 := 16#32
  let v104 : BitVec 32 := Scalar.muli v98 c16_i32_88
  let v106 : Index := Scalar.indexCast v104
  ![0, v106.toNat]

def k0_chk2 (v101 : IVec S16 32) (v108 : IVec S16 32) : Prop :=
  (∀ a x, ((![v108, v101] : Fin 2 → IVec S16 32) a x).toNat < S4x2048.size a)
theorem k0_idx2_inb : ∀ (v101 : IVec S16 32) (v108 : IVec S16 32) (k0_hw2 : k0_chk2 v101 v108), ∀ a x, ((![v108, v101] : Fin 2 → IVec S16 32) a x).toNat < S4x2048.size a := fun v101 v108 k0_hw2 => k0_hw2
def k0_off8 (k0_t3 : Fin k0_t3_loop.trips) : Fin 2 → Nat :=
  let c1_i32_92 : BitVec 32 := 1#32
  let v111 : Index := Scalar.indexCast c1_i32_92
  let c0_i32_86 : BitVec 32 := 0#32
  let c0_i32_31 : BitVec 32 := 0#32
  let c1_i32_32 : BitVec 32 := 1#32
  let arg25 : BitVec 32 := Scf.iv c0_i32_31 c1_i32_32 k0_t3
  let c1_i32_85 : BitVec 32 := 1#32
  let v97 : BitVec 32 := Scalar.muli arg25 c1_i32_85
  let v98 : BitVec 32 := Scalar.addi c0_i32_86 v97
  let c16_i32_91 : BitVec 32 := 16#32
  let v110 : BitVec 32 := Scalar.muli v98 c16_i32_91
  let v112 : Index := Scalar.indexCast v110
  ![1, v112.toNat]

def k0_chk3 (v101 : IVec S16 32) (v114 : IVec S16 32) : Prop :=
  (∀ a x, ((![v114, v101] : Fin 2 → IVec S16 32) a x).toNat < S4x2048.size a)
theorem k0_idx3_inb : ∀ (v101 : IVec S16 32) (v114 : IVec S16 32) (k0_hw3 : k0_chk3 v101 v114), ∀ a x, ((![v114, v101] : Fin 2 → IVec S16 32) a x).toNat < S4x2048.size a := fun v101 v114 k0_hw3 => k0_hw3
def k0_off9 (k0_t3 : Fin k0_t3_loop.trips) : Fin 2 → Nat :=
  let c2_i32_95 : BitVec 32 := 2#32
  let v117 : Index := Scalar.indexCast c2_i32_95
  let c0_i32_86 : BitVec 32 := 0#32
  let c0_i32_31 : BitVec 32 := 0#32
  let c1_i32_32 : BitVec 32 := 1#32
  let arg25 : BitVec 32 := Scf.iv c0_i32_31 c1_i32_32 k0_t3
  let c1_i32_85 : BitVec 32 := 1#32
  let v97 : BitVec 32 := Scalar.muli arg25 c1_i32_85
  let v98 : BitVec 32 := Scalar.addi c0_i32_86 v97
  let c16_i32_94 : BitVec 32 := 16#32
  let v116 : BitVec 32 := Scalar.muli v98 c16_i32_94
  let v118 : Index := Scalar.indexCast v116
  ![2, v118.toNat]

def k0_chk4 (v101 : IVec S16 32) (v120 : IVec S16 32) : Prop :=
  (∀ a x, ((![v120, v101] : Fin 2 → IVec S16 32) a x).toNat < S4x2048.size a)
theorem k0_idx4_inb : ∀ (v101 : IVec S16 32) (v120 : IVec S16 32) (k0_hw4 : k0_chk4 v101 v120), ∀ a x, ((![v120, v101] : Fin 2 → IVec S16 32) a x).toNat < S4x2048.size a := fun v101 v120 k0_hw4 => k0_hw4
def k0_off10 (k0_t3 : Fin k0_t3_loop.trips) : Fin 2 → Nat :=
  let c3_i32_98 : BitVec 32 := 3#32
  let v123 : Index := Scalar.indexCast c3_i32_98
  let c0_i32_86 : BitVec 32 := 0#32
  let c0_i32_31 : BitVec 32 := 0#32
  let c1_i32_32 : BitVec 32 := 1#32
  let arg25 : BitVec 32 := Scf.iv c0_i32_31 c1_i32_32 k0_t3
  let c1_i32_85 : BitVec 32 := 1#32
  let v97 : BitVec 32 := Scalar.muli arg25 c1_i32_85
  let v98 : BitVec 32 := Scalar.addi c0_i32_86 v97
  let c16_i32_97 : BitVec 32 := 16#32
  let v122 : BitVec 32 := Scalar.muli v98 c16_i32_97
  let v124 : Index := Scalar.indexCast v122
  ![3, v124.toNat]
def k0_cond2 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c31_i32 : BitVec 32 := 31#32
  let v43 : BitVec 1 := Scalar.cmpi .slt arg24 c31_i32
  let v44 : BitVec 32 := Scalar.extui v43
  let c0_i32_37 : BitVec 32 := 0#32
  let v45 : BitVec 1 := Scalar.cmpi .ne v44 c0_i32_37
  v45

def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_24 : BitVec 32 := 4#32
  let c0_i32_12 : BitVec 32 := 0#32
  let c1_i32_14 : BitVec 32 := 1#32
  let arg24 : BitVec 32 := Scf.iv c0_i32_12 c1_i32_14 k0_t2
  let v29 : BitVec 32 := Scalar.muli c4_i32_24 arg24
  let c0_i32_25 : BitVec 32 := 0#32
  let v30 : BitVec 32 := Scalar.addi v29 c0_i32_25
  let c4_i32_85 : BitVec 32 := 4#32
  let v97 : BitVec 32 := Scalar.addi v30 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
def k0_cond3 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c0_i32_43 : BitVec 32 := 0#32
  let v52 : BitVec 1 := Scalar.cmpi .sgt arg24 c0_i32_43
  let v53 : BitVec 32 := Scalar.extui v52
  let c0_i32_44 : BitVec 32 := 0#32
  let v54 : BitVec 1 := Scalar.cmpi .ne v53 c0_i32_44
  v54

def k0_off12 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_38 : BitVec 32 := 4#32
  let c0_i32_12 : BitVec 32 := 0#32
  let c1_i32_14 : BitVec 32 := 1#32
  let arg24 : BitVec 32 := Scf.iv c0_i32_12 c1_i32_14 k0_t2
  let v46 : BitVec 32 := Scalar.muli c4_i32_38 arg24
  let c1_i32_39 : BitVec 32 := 1#32
  let v47 : BitVec 32 := Scalar.addi v46 c1_i32_39
  let c4_i32_85 : BitVec 32 := 4#32
  let v97 : BitVec 32 := Scalar.subi v47 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
@[reducible] def k0_t4_loop : Scf.Loop 32 :=
  let c0_i32_45 : BitVec 32 := 0#32
  let c128_i32_46 : BitVec 32 := 128#32
  let v55 : BitVec 32 := Scalar.addi c0_i32_45 c128_i32_46
  let c1_i32_47 : BitVec 32 := 1#32
  ⟨c0_i32_45, v55, c1_i32_47⟩
def k0_off13 (k0_t4 : Fin k0_t4_loop.trips) : Fin 1 → Nat :=
  let c0_i32_86 : BitVec 32 := 0#32
  let c0_i32_45 : BitVec 32 := 0#32
  let c1_i32_47 : BitVec 32 := 1#32
  let arg25 : BitVec 32 := Scf.iv c0_i32_45 c1_i32_47 k0_t4
  let c1_i32_85 : BitVec 32 := 1#32
  let v97 : BitVec 32 := Scalar.muli arg25 c1_i32_85
  let v98 : BitVec 32 := Scalar.addi c0_i32_86 v97
  let c16_i32 : BitVec 32 := 16#32
  let v99 : BitVec 32 := Scalar.muli v98 c16_i32
  let v100 : Index := Scalar.indexCast v99
  ![v100.toNat]

def k0_chk5 (v101 : IVec S16 32) (v102 : IVec S16 32) : Prop :=
  (∀ a x, ((![v102, v101] : Fin 2 → IVec S16 32) a x).toNat < S4x2048.size a)
theorem k0_idx5_inb : ∀ (v101 : IVec S16 32) (v102 : IVec S16 32) (k0_hw5 : k0_chk5 v101 v102), ∀ a x, ((![v102, v101] : Fin 2 → IVec S16 32) a x).toNat < S4x2048.size a := fun v101 v102 k0_hw5 => k0_hw5
def k0_off14 (k0_t4 : Fin k0_t4_loop.trips) : Fin 2 → Nat :=
  let c0_i32_89 : BitVec 32 := 0#32
  let v105 : Index := Scalar.indexCast c0_i32_89
  let c0_i32_86 : BitVec 32 := 0#32
  let c0_i32_45 : BitVec 32 := 0#32
  let c1_i32_47 : BitVec 32 := 1#32
  let arg25 : BitVec 32 := Scf.iv c0_i32_45 c1_i32_47 k0_t4
  let c1_i32_85 : BitVec 32 := 1#32
  let v97 : BitVec 32 := Scalar.muli arg25 c1_i32_85
  let v98 : BitVec 32 := Scalar.addi c0_i32_86 v97
  let c16_i32_88 : BitVec 32 := 16#32
  let v104 : BitVec 32 := Scalar.muli v98 c16_i32_88
  let v106 : Index := Scalar.indexCast v104
  ![0, v106.toNat]

def k0_chk6 (v101 : IVec S16 32) (v108 : IVec S16 32) : Prop :=
  (∀ a x, ((![v108, v101] : Fin 2 → IVec S16 32) a x).toNat < S4x2048.size a)
theorem k0_idx6_inb : ∀ (v101 : IVec S16 32) (v108 : IVec S16 32) (k0_hw6 : k0_chk6 v101 v108), ∀ a x, ((![v108, v101] : Fin 2 → IVec S16 32) a x).toNat < S4x2048.size a := fun v101 v108 k0_hw6 => k0_hw6
def k0_off15 (k0_t4 : Fin k0_t4_loop.trips) : Fin 2 → Nat :=
  let c1_i32_92 : BitVec 32 := 1#32
  let v111 : Index := Scalar.indexCast c1_i32_92
  let c0_i32_86 : BitVec 32 := 0#32
  let c0_i32_45 : BitVec 32 := 0#32
  let c1_i32_47 : BitVec 32 := 1#32
  let arg25 : BitVec 32 := Scf.iv c0_i32_45 c1_i32_47 k0_t4
  let c1_i32_85 : BitVec 32 := 1#32
  let v97 : BitVec 32 := Scalar.muli arg25 c1_i32_85
  let v98 : BitVec 32 := Scalar.addi c0_i32_86 v97
  let c16_i32_91 : BitVec 32 := 16#32
  let v110 : BitVec 32 := Scalar.muli v98 c16_i32_91
  let v112 : Index := Scalar.indexCast v110
  ![1, v112.toNat]

def k0_chk7 (v101 : IVec S16 32) (v114 : IVec S16 32) : Prop :=
  (∀ a x, ((![v114, v101] : Fin 2 → IVec S16 32) a x).toNat < S4x2048.size a)
theorem k0_idx7_inb : ∀ (v101 : IVec S16 32) (v114 : IVec S16 32) (k0_hw7 : k0_chk7 v101 v114), ∀ a x, ((![v114, v101] : Fin 2 → IVec S16 32) a x).toNat < S4x2048.size a := fun v101 v114 k0_hw7 => k0_hw7
def k0_off16 (k0_t4 : Fin k0_t4_loop.trips) : Fin 2 → Nat :=
  let c2_i32_95 : BitVec 32 := 2#32
  let v117 : Index := Scalar.indexCast c2_i32_95
  let c0_i32_86 : BitVec 32 := 0#32
  let c0_i32_45 : BitVec 32 := 0#32
  let c1_i32_47 : BitVec 32 := 1#32
  let arg25 : BitVec 32 := Scf.iv c0_i32_45 c1_i32_47 k0_t4
  let c1_i32_85 : BitVec 32 := 1#32
  let v97 : BitVec 32 := Scalar.muli arg25 c1_i32_85
  let v98 : BitVec 32 := Scalar.addi c0_i32_86 v97
  let c16_i32_94 : BitVec 32 := 16#32
  let v116 : BitVec 32 := Scalar.muli v98 c16_i32_94
  let v118 : Index := Scalar.indexCast v116
  ![2, v118.toNat]

def k0_chk8 (v101 : IVec S16 32) (v120 : IVec S16 32) : Prop :=
  (∀ a x, ((![v120, v101] : Fin 2 → IVec S16 32) a x).toNat < S4x2048.size a)
theorem k0_idx8_inb : ∀ (v101 : IVec S16 32) (v120 : IVec S16 32) (k0_hw8 : k0_chk8 v101 v120), ∀ a x, ((![v120, v101] : Fin 2 → IVec S16 32) a x).toNat < S4x2048.size a := fun v101 v120 k0_hw8 => k0_hw8
def k0_off17 (k0_t4 : Fin k0_t4_loop.trips) : Fin 2 → Nat :=
  let c3_i32_98 : BitVec 32 := 3#32
  let v123 : Index := Scalar.indexCast c3_i32_98
  let c0_i32_86 : BitVec 32 := 0#32
  let c0_i32_45 : BitVec 32 := 0#32
  let c1_i32_47 : BitVec 32 := 1#32
  let arg25 : BitVec 32 := Scf.iv c0_i32_45 c1_i32_47 k0_t4
  let c1_i32_85 : BitVec 32 := 1#32
  let v97 : BitVec 32 := Scalar.muli arg25 c1_i32_85
  let v98 : BitVec 32 := Scalar.addi c0_i32_86 v97
  let c16_i32_97 : BitVec 32 := 16#32
  let v122 : BitVec 32 := Scalar.muli v98 c16_i32_97
  let v124 : Index := Scalar.indexCast v122
  ![3, v124.toNat]
def k0_cond4 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c31_i32_52 : BitVec 32 := 31#32
  let v60 : BitVec 1 := Scalar.cmpi .slt arg24 c31_i32_52
  let v61 : BitVec 32 := Scalar.extui v60
  let c0_i32_53 : BitVec 32 := 0#32
  let v62 : BitVec 1 := Scalar.cmpi .ne v61 c0_i32_53
  v62

def k0_off18 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_38 : BitVec 32 := 4#32
  let c0_i32_12 : BitVec 32 := 0#32
  let c1_i32_14 : BitVec 32 := 1#32
  let arg24 : BitVec 32 := Scf.iv c0_i32_12 c1_i32_14 k0_t2
  let v46 : BitVec 32 := Scalar.muli c4_i32_38 arg24
  let c1_i32_39 : BitVec 32 := 1#32
  let v47 : BitVec 32 := Scalar.addi v46 c1_i32_39
  let c4_i32_85 : BitVec 32 := 4#32
  let v97 : BitVec 32 := Scalar.addi v47 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
def k0_cond5 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c0_i32_59 : BitVec 32 := 0#32
  let v69 : BitVec 1 := Scalar.cmpi .sgt arg24 c0_i32_59
  let v70 : BitVec 32 := Scalar.extui v69
  let c0_i32_60 : BitVec 32 := 0#32
  let v71 : BitVec 1 := Scalar.cmpi .ne v70 c0_i32_60
  v71

def k0_off19 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_54 : BitVec 32 := 4#32
  let c0_i32_12 : BitVec 32 := 0#32
  let c1_i32_14 : BitVec 32 := 1#32
  let arg24 : BitVec 32 := Scf.iv c0_i32_12 c1_i32_14 k0_t2
  let v63 : BitVec 32 := Scalar.muli c4_i32_54 arg24
  let c2_i32_55 : BitVec 32 := 2#32
  let v64 : BitVec 32 := Scalar.addi v63 c2_i32_55
  let c4_i32_85 : BitVec 32 := 4#32
  let v97 : BitVec 32 := Scalar.subi v64 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
@[reducible] def k0_t5_loop : Scf.Loop 32 :=
  let c0_i32_61 : BitVec 32 := 0#32
  let c128_i32_62 : BitVec 32 := 128#32
  let v72 : BitVec 32 := Scalar.addi c0_i32_61 c128_i32_62
  let c1_i32_63 : BitVec 32 := 1#32
  ⟨c0_i32_61, v72, c1_i32_63⟩
def k0_off20 (k0_t5 : Fin k0_t5_loop.trips) : Fin 1 → Nat :=
  let c0_i32_86 : BitVec 32 := 0#32
  let c0_i32_61 : BitVec 32 := 0#32
  let c1_i32_63 : BitVec 32 := 1#32
  let arg25 : BitVec 32 := Scf.iv c0_i32_61 c1_i32_63 k0_t5
  let c1_i32_85 : BitVec 32 := 1#32
  let v97 : BitVec 32 := Scalar.muli arg25 c1_i32_85
  let v98 : BitVec 32 := Scalar.addi c0_i32_86 v97
  let c16_i32 : BitVec 32 := 16#32
  let v99 : BitVec 32 := Scalar.muli v98 c16_i32
  let v100 : Index := Scalar.indexCast v99
  ![v100.toNat]

def k0_chk9 (v101 : IVec S16 32) (v102 : IVec S16 32) : Prop :=
  (∀ a x, ((![v102, v101] : Fin 2 → IVec S16 32) a x).toNat < S4x2048.size a)
theorem k0_idx9_inb : ∀ (v101 : IVec S16 32) (v102 : IVec S16 32) (k0_hw9 : k0_chk9 v101 v102), ∀ a x, ((![v102, v101] : Fin 2 → IVec S16 32) a x).toNat < S4x2048.size a := fun v101 v102 k0_hw9 => k0_hw9
def k0_off21 (k0_t5 : Fin k0_t5_loop.trips) : Fin 2 → Nat :=
  let c0_i32_89 : BitVec 32 := 0#32
  let v105 : Index := Scalar.indexCast c0_i32_89
  let c0_i32_86 : BitVec 32 := 0#32
  let c0_i32_61 : BitVec 32 := 0#32
  let c1_i32_63 : BitVec 32 := 1#32
  let arg25 : BitVec 32 := Scf.iv c0_i32_61 c1_i32_63 k0_t5
  let c1_i32_85 : BitVec 32 := 1#32
  let v97 : BitVec 32 := Scalar.muli arg25 c1_i32_85
  let v98 : BitVec 32 := Scalar.addi c0_i32_86 v97
  let c16_i32_88 : BitVec 32 := 16#32
  let v104 : BitVec 32 := Scalar.muli v98 c16_i32_88
  let v106 : Index := Scalar.indexCast v104
  ![0, v106.toNat]

def k0_chk10 (v101 : IVec S16 32) (v108 : IVec S16 32) : Prop :=
  (∀ a x, ((![v108, v101] : Fin 2 → IVec S16 32) a x).toNat < S4x2048.size a)
theorem k0_idx10_inb : ∀ (v101 : IVec S16 32) (v108 : IVec S16 32) (k0_hw10 : k0_chk10 v101 v108), ∀ a x, ((![v108, v101] : Fin 2 → IVec S16 32) a x).toNat < S4x2048.size a := fun v101 v108 k0_hw10 => k0_hw10
def k0_off22 (k0_t5 : Fin k0_t5_loop.trips) : Fin 2 → Nat :=
  let c1_i32_92 : BitVec 32 := 1#32
  let v111 : Index := Scalar.indexCast c1_i32_92
  let c0_i32_86 : BitVec 32 := 0#32
  let c0_i32_61 : BitVec 32 := 0#32
  let c1_i32_63 : BitVec 32 := 1#32
  let arg25 : BitVec 32 := Scf.iv c0_i32_61 c1_i32_63 k0_t5
  let c1_i32_85 : BitVec 32 := 1#32
  let v97 : BitVec 32 := Scalar.muli arg25 c1_i32_85
  let v98 : BitVec 32 := Scalar.addi c0_i32_86 v97
  let c16_i32_91 : BitVec 32 := 16#32
  let v110 : BitVec 32 := Scalar.muli v98 c16_i32_91
  let v112 : Index := Scalar.indexCast v110
  ![1, v112.toNat]

def k0_chk11 (v101 : IVec S16 32) (v114 : IVec S16 32) : Prop :=
  (∀ a x, ((![v114, v101] : Fin 2 → IVec S16 32) a x).toNat < S4x2048.size a)
theorem k0_idx11_inb : ∀ (v101 : IVec S16 32) (v114 : IVec S16 32) (k0_hw11 : k0_chk11 v101 v114), ∀ a x, ((![v114, v101] : Fin 2 → IVec S16 32) a x).toNat < S4x2048.size a := fun v101 v114 k0_hw11 => k0_hw11
def k0_off23 (k0_t5 : Fin k0_t5_loop.trips) : Fin 2 → Nat :=
  let c2_i32_95 : BitVec 32 := 2#32
  let v117 : Index := Scalar.indexCast c2_i32_95
  let c0_i32_86 : BitVec 32 := 0#32
  let c0_i32_61 : BitVec 32 := 0#32
  let c1_i32_63 : BitVec 32 := 1#32
  let arg25 : BitVec 32 := Scf.iv c0_i32_61 c1_i32_63 k0_t5
  let c1_i32_85 : BitVec 32 := 1#32
  let v97 : BitVec 32 := Scalar.muli arg25 c1_i32_85
  let v98 : BitVec 32 := Scalar.addi c0_i32_86 v97
  let c16_i32_94 : BitVec 32 := 16#32
  let v116 : BitVec 32 := Scalar.muli v98 c16_i32_94
  let v118 : Index := Scalar.indexCast v116
  ![2, v118.toNat]

def k0_chk12 (v101 : IVec S16 32) (v120 : IVec S16 32) : Prop :=
  (∀ a x, ((![v120, v101] : Fin 2 → IVec S16 32) a x).toNat < S4x2048.size a)
theorem k0_idx12_inb : ∀ (v101 : IVec S16 32) (v120 : IVec S16 32) (k0_hw12 : k0_chk12 v101 v120), ∀ a x, ((![v120, v101] : Fin 2 → IVec S16 32) a x).toNat < S4x2048.size a := fun v101 v120 k0_hw12 => k0_hw12
def k0_off24 (k0_t5 : Fin k0_t5_loop.trips) : Fin 2 → Nat :=
  let c3_i32_98 : BitVec 32 := 3#32
  let v123 : Index := Scalar.indexCast c3_i32_98
  let c0_i32_86 : BitVec 32 := 0#32
  let c0_i32_61 : BitVec 32 := 0#32
  let c1_i32_63 : BitVec 32 := 1#32
  let arg25 : BitVec 32 := Scf.iv c0_i32_61 c1_i32_63 k0_t5
  let c1_i32_85 : BitVec 32 := 1#32
  let v97 : BitVec 32 := Scalar.muli arg25 c1_i32_85
  let v98 : BitVec 32 := Scalar.addi c0_i32_86 v97
  let c16_i32_97 : BitVec 32 := 16#32
  let v122 : BitVec 32 := Scalar.muli v98 c16_i32_97
  let v124 : Index := Scalar.indexCast v122
  ![3, v124.toNat]
def k0_cond6 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c31_i32_68 : BitVec 32 := 31#32
  let v77 : BitVec 1 := Scalar.cmpi .slt arg24 c31_i32_68
  let v78 : BitVec 32 := Scalar.extui v77
  let c0_i32_69 : BitVec 32 := 0#32
  let v79 : BitVec 1 := Scalar.cmpi .ne v78 c0_i32_69
  v79

def k0_off25 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_54 : BitVec 32 := 4#32
  let c0_i32_12 : BitVec 32 := 0#32
  let c1_i32_14 : BitVec 32 := 1#32
  let arg24 : BitVec 32 := Scf.iv c0_i32_12 c1_i32_14 k0_t2
  let v63 : BitVec 32 := Scalar.muli c4_i32_54 arg24
  let c2_i32_55 : BitVec 32 := 2#32
  let v64 : BitVec 32 := Scalar.addi v63 c2_i32_55
  let c4_i32_85 : BitVec 32 := 4#32
  let v97 : BitVec 32 := Scalar.addi v64 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
def k0_cond7 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c0_i32_74 : BitVec 32 := 0#32
  let v86 : BitVec 1 := Scalar.cmpi .sgt arg24 c0_i32_74
  let v87 : BitVec 32 := Scalar.extui v86
  let c0_i32_75 : BitVec 32 := 0#32
  let v88 : BitVec 1 := Scalar.cmpi .ne v87 c0_i32_75
  v88

def k0_off26 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_70 : BitVec 32 := 4#32
  let c0_i32_12 : BitVec 32 := 0#32
  let c1_i32_14 : BitVec 32 := 1#32
  let arg24 : BitVec 32 := Scf.iv c0_i32_12 c1_i32_14 k0_t2
  let v80 : BitVec 32 := Scalar.muli c4_i32_70 arg24
  let c3_i32 : BitVec 32 := 3#32
  let v81 : BitVec 32 := Scalar.addi v80 c3_i32
  let c4_i32_85 : BitVec 32 := 4#32
  let v97 : BitVec 32 := Scalar.subi v81 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
@[reducible] def k0_t6_loop : Scf.Loop 32 :=
  let c0_i32_76 : BitVec 32 := 0#32
  let c128_i32_77 : BitVec 32 := 128#32
  let v89 : BitVec 32 := Scalar.addi c0_i32_76 c128_i32_77
  let c1_i32_78 : BitVec 32 := 1#32
  ⟨c0_i32_76, v89, c1_i32_78⟩
def k0_off27 (k0_t6 : Fin k0_t6_loop.trips) : Fin 1 → Nat :=
  let c0_i32_86 : BitVec 32 := 0#32
  let c0_i32_76 : BitVec 32 := 0#32
  let c1_i32_78 : BitVec 32 := 1#32
  let arg25 : BitVec 32 := Scf.iv c0_i32_76 c1_i32_78 k0_t6
  let c1_i32_85 : BitVec 32 := 1#32
  let v97 : BitVec 32 := Scalar.muli arg25 c1_i32_85
  let v98 : BitVec 32 := Scalar.addi c0_i32_86 v97
  let c16_i32 : BitVec 32 := 16#32
  let v99 : BitVec 32 := Scalar.muli v98 c16_i32
  let v100 : Index := Scalar.indexCast v99
  ![v100.toNat]

def k0_chk13 (v101 : IVec S16 32) (v102 : IVec S16 32) : Prop :=
  (∀ a x, ((![v102, v101] : Fin 2 → IVec S16 32) a x).toNat < S4x2048.size a)
theorem k0_idx13_inb : ∀ (v101 : IVec S16 32) (v102 : IVec S16 32) (k0_hw13 : k0_chk13 v101 v102), ∀ a x, ((![v102, v101] : Fin 2 → IVec S16 32) a x).toNat < S4x2048.size a := fun v101 v102 k0_hw13 => k0_hw13
def k0_off28 (k0_t6 : Fin k0_t6_loop.trips) : Fin 2 → Nat :=
  let c0_i32_89 : BitVec 32 := 0#32
  let v105 : Index := Scalar.indexCast c0_i32_89
  let c0_i32_86 : BitVec 32 := 0#32
  let c0_i32_76 : BitVec 32 := 0#32
  let c1_i32_78 : BitVec 32 := 1#32
  let arg25 : BitVec 32 := Scf.iv c0_i32_76 c1_i32_78 k0_t6
  let c1_i32_85 : BitVec 32 := 1#32
  let v97 : BitVec 32 := Scalar.muli arg25 c1_i32_85
  let v98 : BitVec 32 := Scalar.addi c0_i32_86 v97
  let c16_i32_88 : BitVec 32 := 16#32
  let v104 : BitVec 32 := Scalar.muli v98 c16_i32_88
  let v106 : Index := Scalar.indexCast v104
  ![0, v106.toNat]

def k0_chk14 (v101 : IVec S16 32) (v108 : IVec S16 32) : Prop :=
  (∀ a x, ((![v108, v101] : Fin 2 → IVec S16 32) a x).toNat < S4x2048.size a)
theorem k0_idx14_inb : ∀ (v101 : IVec S16 32) (v108 : IVec S16 32) (k0_hw14 : k0_chk14 v101 v108), ∀ a x, ((![v108, v101] : Fin 2 → IVec S16 32) a x).toNat < S4x2048.size a := fun v101 v108 k0_hw14 => k0_hw14
def k0_off29 (k0_t6 : Fin k0_t6_loop.trips) : Fin 2 → Nat :=
  let c1_i32_92 : BitVec 32 := 1#32
  let v111 : Index := Scalar.indexCast c1_i32_92
  let c0_i32_86 : BitVec 32 := 0#32
  let c0_i32_76 : BitVec 32 := 0#32
  let c1_i32_78 : BitVec 32 := 1#32
  let arg25 : BitVec 32 := Scf.iv c0_i32_76 c1_i32_78 k0_t6
  let c1_i32_85 : BitVec 32 := 1#32
  let v97 : BitVec 32 := Scalar.muli arg25 c1_i32_85
  let v98 : BitVec 32 := Scalar.addi c0_i32_86 v97
  let c16_i32_91 : BitVec 32 := 16#32
  let v110 : BitVec 32 := Scalar.muli v98 c16_i32_91
  let v112 : Index := Scalar.indexCast v110
  ![1, v112.toNat]

def k0_chk15 (v101 : IVec S16 32) (v114 : IVec S16 32) : Prop :=
  (∀ a x, ((![v114, v101] : Fin 2 → IVec S16 32) a x).toNat < S4x2048.size a)
theorem k0_idx15_inb : ∀ (v101 : IVec S16 32) (v114 : IVec S16 32) (k0_hw15 : k0_chk15 v101 v114), ∀ a x, ((![v114, v101] : Fin 2 → IVec S16 32) a x).toNat < S4x2048.size a := fun v101 v114 k0_hw15 => k0_hw15
def k0_off30 (k0_t6 : Fin k0_t6_loop.trips) : Fin 2 → Nat :=
  let c2_i32_95 : BitVec 32 := 2#32
  let v117 : Index := Scalar.indexCast c2_i32_95
  let c0_i32_86 : BitVec 32 := 0#32
  let c0_i32_76 : BitVec 32 := 0#32
  let c1_i32_78 : BitVec 32 := 1#32
  let arg25 : BitVec 32 := Scf.iv c0_i32_76 c1_i32_78 k0_t6
  let c1_i32_85 : BitVec 32 := 1#32
  let v97 : BitVec 32 := Scalar.muli arg25 c1_i32_85
  let v98 : BitVec 32 := Scalar.addi c0_i32_86 v97
  let c16_i32_94 : BitVec 32 := 16#32
  let v116 : BitVec 32 := Scalar.muli v98 c16_i32_94
  let v118 : Index := Scalar.indexCast v116
  ![2, v118.toNat]

def k0_chk16 (v101 : IVec S16 32) (v120 : IVec S16 32) : Prop :=
  (∀ a x, ((![v120, v101] : Fin 2 → IVec S16 32) a x).toNat < S4x2048.size a)
theorem k0_idx16_inb : ∀ (v101 : IVec S16 32) (v120 : IVec S16 32) (k0_hw16 : k0_chk16 v101 v120), ∀ a x, ((![v120, v101] : Fin 2 → IVec S16 32) a x).toNat < S4x2048.size a := fun v101 v120 k0_hw16 => k0_hw16
def k0_off31 (k0_t6 : Fin k0_t6_loop.trips) : Fin 2 → Nat :=
  let c3_i32_98 : BitVec 32 := 3#32
  let v123 : Index := Scalar.indexCast c3_i32_98
  let c0_i32_86 : BitVec 32 := 0#32
  let c0_i32_76 : BitVec 32 := 0#32
  let c1_i32_78 : BitVec 32 := 1#32
  let arg25 : BitVec 32 := Scf.iv c0_i32_76 c1_i32_78 k0_t6
  let c1_i32_85 : BitVec 32 := 1#32
  let v97 : BitVec 32 := Scalar.muli arg25 c1_i32_85
  let v98 : BitVec 32 := Scalar.addi c0_i32_86 v97
  let c16_i32_97 : BitVec 32 := 16#32
  let v122 : BitVec 32 := Scalar.muli v98 c16_i32_97
  let v124 : Index := Scalar.indexCast v122
  ![3, v124.toNat]
def k0_cond8 (k0_t2 : Fin k0_t2_loop.trips) : BitVec 1 :=
  let c0_i32_12 : BitVec 32 := 0#32
  let c1_i32_14 : BitVec 32 := 1#32
  let arg24 : BitVec 32 := Scf.iv c0_i32_12 c1_i32_14 k0_t2
  let c31_i32_83 : BitVec 32 := 31#32
  let v94 : BitVec 1 := Scalar.cmpi .slt arg24 c31_i32_83
  let v95 : BitVec 32 := Scalar.extui v94
  let c0_i32_84 : BitVec 32 := 0#32
  let v96 : BitVec 1 := Scalar.cmpi .ne v95 c0_i32_84
  v96

def k0_off32 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c4_i32_70 : BitVec 32 := 4#32
  let c0_i32_12 : BitVec 32 := 0#32
  let c1_i32_14 : BitVec 32 := 1#32
  let arg24 : BitVec 32 := Scf.iv c0_i32_12 c1_i32_14 k0_t2
  let v80 : BitVec 32 := Scalar.muli c4_i32_70 arg24
  let c3_i32 : BitVec 32 := 3#32
  let v81 : BitVec 32 := Scalar.addi v80 c3_i32
  let c4_i32_85 : BitVec 32 := 4#32
  let v97 : BitVec 32 := Scalar.addi v81 c4_i32_85
  let c4_i32_86 : BitVec 32 := 4#32
  let v98 : BitVec 32 := Scalar.muli v97 c4_i32_86
  let v99 : BitVec 32 := Scalar.addi v2 v98
  let c0_i32_87 : BitVec 32 := 0#32
  ![v99.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S2048 : Shape := ⟨1, ![2048]⟩
abbrev S_ : Shape := ⟨0, ![]⟩
abbrev S2048x1 : Shape := ⟨2, ![2048, 1]⟩
abbrev S16384 : Shape := ⟨1, ![16384]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S16384x2048, .f32⟩
  | .hbm, ⟨11, _⟩ => ⟨S_, .f32⟩
  | .hbm, ⟨12, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Setup.lean ====
/-
  The program as the SparseCore launch theorem sees it, and the resource algebra of its run: the handshakes' rounds
  beside the counters of the tiles' own transfers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and beside them the transfers' counters. -/
abbrev UH : Type := URounds (GSem nD τ sig) ℕ
abbrev UU : Type := UH × Counters

abbrev EH : Emb UH (MT nD τ sig (HIx 1) (Elt F) ℕ UU ℕ) := embL

/-- The thread of the tile at grid coordinates `L`, on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof.Perm

end
-- ==== Proof.Gather.lean ====
/-
  The inner loop of one slot: for every group of sixteen columns, the permutation's words of the group are loaded, and
  each of the slab's four rows is gathered at them into the out slab. After the loop the out slab holds the in slab's
  columns permuted.
-/
module

public import proofs.«01_k».proof.Proof.Setup

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The permutation's words all name a column. -/
def InCols (p : S2048.Idx → BitVec 32) : Prop := ∀ j, (p j).toNat < 2048

/-- The column that place `j` takes its element from. -/
def colOf (p : S2048.Idx → BitVec 32) (hp : InCols p) (j : Fin 2048) : Fin 2048 := ⟨(p (fun | 0 => j)).toNat, hp _⟩

/-- A slab of four rows with its columns permuted. -/
def permSlab (p : S2048.Idx → BitVec 32) (hp : InCols p) (X : S4x2048.Idx → F .f32) : S4x2048.Idx → F .f32 :=
  fun y => X (fun | 0 => y 0 | 1 => colOf p hp (y 1))

/-- The rectangle of one row's sixteen elements. -/
abbrev rowRect (off : Fin 2 → Nat) (hoff : ∀ a, off a + S1x16.size a ≤ S4x2048.size a) : Rect S4x2048 :=
  Rect.unit (s := S4x2048) off S1x16.size hoff

/-- One row's step of a trip: check the words, gather row `r` of the in slab at them, store the sixteen elements at
    row `r` of the out slab. -/
abbrev rowStep (a : Fin τ.nSC) (b : Fin τ.nSub) (inb outb : Memref sig .scVector .vmem S4x2048 .f32) (rv : IVec S16 32) (off : Fin 2 → Nat)
    (hoff : ∀ a, off a + S1x16.size a ≤ S4x2048.size a) (v : Vec F S16 .i32)
    (hdec : Decidable (∀ a x, ((![rv, v] : Fin 2 → IVec S16 32) a x).toNat < S4x2048.size a))
    (k : Prog (TpuEff nD τ sig (Elt F) Λ₀ (.scVector a b)) PUnit) : Prog (TpuEff nD τ sig (Elt F) Λ₀ (.scVector a b)) PUnit :=
  Prog.op (TpuEff.assume (∀ a x, ((![rv, v] : Fin 2 → IVec S16 32) a x).toNat < S4x2048.size a) hdec) fun h =>
    Prog.op (.load inb (Rect.whole S4x2048).toLoadRect (View.loadsAt_whole (View.loads_vmem h_S4x2048))) fun f =>
      Prog.op (.load outb (rowRect off hoff).toLoadRect (View.loadsAt_vmem h_S1x16)) fun _ =>
        Prog.op (.store outb (rowRect off hoff)
          (shapeCast S1x16 (loadIdx (F := F) (e := .f32) f ![rv, v] h.down) shapeCasts_S16_S1x16) Finset.univ
            (View.stores_vmem_bits_univ h_S1x16 rfl) (.inl rfl)) fun _ => k

variable (d : Dev nD) (a : Fin τ.nSC) (b : Fin τ.nSub)

/-- A row's step: the piece it stores is consed onto what the out slab has been written with. -/
theorem wp_rowStep {inb outb : Memref sig .scVector .vmem S4x2048 .f32} {rv : IVec S16 32} {off : Fin 2 → Nat}
    {hoff : ∀ a, off a + S1x16.size a ≤ S4x2048.size a} {v : Vec F S16 .i32}
    {hdec : Decidable (∀ a x, ((![rv, v] : Fin 2 → IVec S16 32) a x).toNat < S4x2048.size a)}
    {k : Prog (TpuEff nD τ sig (Elt F) Λ₀ (.scVector a b)) PUnit} {Q : PUnit → sProp 𝕄}
    (h : ∀ a x, ((![rv, v] : Fin 2 → IVec S16 32) a x).toNat < S4x2048.size a)
    {fi : Buf (Elt F) (inb.view.loc (V d a b))} {fo : Buf (Elt F) (outb.view.loc (V d a b))} {L : List (View.Piece (Elt F) S4x2048 .f32)} :
    iprop((inb.view.loc (V d a b) ↦{fullShare} fi) ∗ (outb.view.loc (V d a b) ↦{fullShare} outb.view.writes (Elt F) fo L))
      ⊢ iprop((iprop((inb.view.loc (V d a b) ↦{fullShare} fi)
            ∗ (outb.view.loc (V d a b) ↦{fullShare} outb.view.writes (Elt F) fo
              (⟨rowRect off hoff, shapeCast S1x16 (loadIdx (F := F) (e := .f32) (inb.view.read (Elt F) fi) ![rv, v] h) shapeCasts_S16_S1x16⟩ :: L)))
          -∗ wp frame (wpE (defs₀ (F := F)) 𝒱₀ (V d a b) none) Set.univ k Q)
        -∗ wp frame (wpE (defs₀ (F := F)) 𝒱₀ (V d a b) none) Set.univ (rowStep a b inb outb rv off hoff v hdec k) Q) := by
  iintro ⟨Hi, Ho⟩ Hk
  unfold rowStep
  rw [wp_assume_of _ _ _ _ h]
  iapply (wp_load 𝒱₀ (V d a b) none Set.univ (m := inb) (S := Finset.univ) (Finset.subset_univ _)) $$ Hi; iintro Hi
  iapply (wp_load 𝒱₀ (V d a b) none Set.univ (m := outb) (S := Finset.univ) (Finset.subset_univ _)) $$ Ho; iintro Ho
  rw [show inb.view.readAt (Elt F) (Rect.whole S4x2048).toLoadRect fi = inb.view.read (Elt F) fi from
    funext fun x => congrArg (inb.view.read (Elt F) fi) (Rect.emb_whole_apply _ x)]
  generalize shapeCast S1x16 (loadIdx (F := F) (e := .f32) (inb.view.read (Elt F) fi) ![rv, v] h) shapeCasts_S16_S1x16 = w
  iapply (wp_store_writes 𝒱₀ (V d a b) none Set.univ (Q := Q) (m := outb) (r := rowRect off hoff) (w := w) (S := Finset.univ) (f := fo) (L := L)
    (Finset.subset_univ _)) $$ Ho; iintro Ho
  iapply Hk
  isplitl [Hi]; · iexact Hi
  iexact Ho

/-- What a row's step stores is the permuted slab's piece at the row's rectangle. -/
theorem rowPiece (p : S2048.Idx → BitVec 32) (hp : InCols p) (X : S4x2048.Idx → F .f32) (k r : Nat) (rv : IVec S16 32)
    (hrv : ∀ x, (rv x).toNat = r) (off : Fin 2 → Nat) (hoff : ∀ a, off a + S1x16.size a ≤ S4x2048.size a) (h0 : off 0 = r) (h1 : off 1 = 16 * k)
    (v : Vec F S16 .i32) (hv : ∀ (x : S16.Idx) (j : S2048.Idx), (j 0).val = 16 * k + (x 0).val → v x = p j)
    (h : ∀ a x, ((![rv, v] : Fin 2 → IVec S16 32) a x).toNat < S4x2048.size a) (x : S1x16.Idx) :
    shapeCast S1x16 (loadIdx (F := F) (e := .f32) X ![rv, v] h) shapeCasts_S16_S1x16 x = permSlab p hp X ((rowRect off hoff).emb x) := by
  refine (shapeCast_addUnit_apply (![16]) _ _ x).trans ?_
  show X _ = X _
  congr 1
  have hx0 : (x 0).val = 0 := by have := (x 0).isLt; simp at this; omega
  have e0 : ((rowRect off hoff).emb x 0).val = r := by
    show off 0 + 1 * (x 0).val = r
    rw [h0, hx0]; omega
  have e1 : ((rowRect off hoff).emb x 1).val = 16 * k + (x 1).val := by
    show off 1 + 1 * (x 1).val = _
    rw [h1]; omega
  funext a
  match a with
  | 0 => exact Fin.ext ((hrv _).trans e0.symm)
  | 1 =>
    apply Fin.ext
    show (v _).toNat = (p _).toNat
    exact congrArg BitVec.toNat (hv (fun a => x a.succ) (fun | 0 => (rowRect off hoff).emb x 1) e1)

/-- A row's rectangle holds the row's sixteen columns. -/
theorem mem_rowRect (y : S4x2048.Idx) (k r : Nat) (off : Fin 2 → Nat) (hoff : ∀ a, off a + S1x16.size a ≤ S4x2048.size a)
    (h0 : off 0 = r) (h1 : off 1 = 16 * k) (hr : (y 0).val = r) (hlo : 16 * k ≤ (y 1).val) (hhi : (y 1).val < 16 * (k + 1)) :
    y ∈ (rowRect off hoff).set := by
  refine Rect.mem_set_unit.mpr fun ax => ?_
  match ax with
  | 0 =>
    refine ⟨?_, ?_⟩
    · show off 0 ≤ (y 0).val
      omega
    · show (y 0).val < off 0 + 1
      omega
  | 1 =>
    refine ⟨?_, ?_⟩
    · show off 1 ≤ (y 1).val
      omega
    · show (y 1).val < off 1 + 16
      omega

/-- Columns left of a row's rectangle are not in it. -/
theorem not_mem_rowRect (y : S4x2048.Idx) (k : Nat) (off : Fin 2 → Nat) (hoff : ∀ a, off a + S1x16.size a ≤ S4x2048.size a)
    (h1 : off 1 = 16 * k) (hlo : (y 1).val < 16 * k) : y ∉ (rowRect off hoff).set := fun h => by
  have h' := (Rect.mem_set_unit.mp h 1).1
  have : off 1 ≤ (y 1).val := h'
  omega

/-- Four rows' pieces of one span of columns, laid over a slab right up to that span, leave it right up to the span's end. -/
theorem trip_read {sp : Space} (outb : Memref sig .scVector sp S4x2048 .f32) (fo : outb.view.ty.Contents (Elt F)) (G : S4x2048.Idx → F .f32) (k k' : Nat) (hk : k' = k + 1)
    (hfo : ∀ y : S4x2048.Idx, (y 1).val < 16 * k → outb.view.read (Elt F) fo y = G y)
    (o0 o1 o2 o3 : Fin 2 → Nat) (i0 : ∀ a, o0 a + S1x16.size a ≤ S4x2048.size a) (i1 : ∀ a, o1 a + S1x16.size a ≤ S4x2048.size a)
    (i2 : ∀ a, o2 a + S1x16.size a ≤ S4x2048.size a) (i3 : ∀ a, o3 a + S1x16.size a ≤ S4x2048.size a)
    (a0 : o0 0 = 0) (b0 : o0 1 = 16 * k) (a1 : o1 0 = 1) (b1 : o1 1 = 16 * k) (a2 : o2 0 = 2) (b2 : o2 1 = 16 * k) (a3 : o3 0 = 3) (b3 : o3 1 = 16 * k)
    (w0 w1 w2 w3 : S1x16.Idx → F .f32)
    (P0 : ∀ x, w0 x = G ((rowRect o0 i0).emb x)) (P1 : ∀ x, w1 x = G ((rowRect o1 i1).emb x))
    (P2 : ∀ x, w2 x = G ((rowRect o2 i2).emb x)) (P3 : ∀ x, w3 x = G ((rowRect o3 i3).emb x))
    (y : S4x2048.Idx) (hy : (y 1).val < 16 * k') :
    outb.view.read (Elt F) (outb.view.writes (Elt F) fo [⟨rowRect o3 i3, w3⟩, ⟨rowRect o2 i2, w2⟩, ⟨rowRect o1 i1, w1⟩, ⟨rowRect o0 i0, w0⟩]) y = G y := by
  subst hk
  by_cases hlo : (y 1).val < 16 * k
  · refine (View.read_writes_apply_of_forall_not_mem outb.view fo y _ ?_).trans (hfo y hlo)
    intro q hq
    simp only [List.mem_cons, List.not_mem_nil, _root_.or_false] at hq
    rcases hq with rfl | rfl | rfl | rfl
    · exact not_mem_rowRect y k o3 i3 b3 hlo
    · exact not_mem_rowRect y k o2 i2 b2 hlo
    · exact not_mem_rowRect y k o1 i1 b1 hlo
    · exact not_mem_rowRect y k o0 i0 b0 hlo
  · have hge : 16 * k ≤ (y 1).val := by omega
    refine View.read_writes_apply_of_pieces outb.view fo G _ ?_ y ?_
    · intro q hq
      simp only [List.mem_cons, List.not_mem_nil, _root_.or_false] at hq
      rcases hq with rfl | rfl | rfl | rfl
      · exact P3
      · exact P2
      · exact P1
      · exact P0
    · have hy0 : (y 0).val < 4 := (y 0).isLt
      rcases (show (y 0).val = 0 ∨ (y 0).val = 1 ∨ (y 0).val = 2 ∨ (y 0).val = 3 by omega) with h | h | h | h
      · exact ⟨_, List.mem_cons_of_mem _ (List.mem_cons_of_mem _ (List.mem_cons_of_mem _ List.mem_cons_self)), mem_rowRect y k 0 o0 i0 a0 b0 h hge hy⟩
      · exact ⟨_, List.mem_cons_of_mem _ (List.mem_cons_of_mem _ List.mem_cons_self), mem_rowRect y k 1 o1 i1 a1 b1 h hge hy⟩
      · exact ⟨_, List.mem_cons_of_mem _ List.mem_cons_self, mem_rowRect y k 2 o2 i2 a2 b2 h hge hy⟩
      · exact ⟨_, List.mem_cons_self, mem_rowRect y k 3 o3 i3 a3 b3 h hge hy⟩

/-- The trip's body of a slot over the memrefs it reads and writes. -/
abbrev gatherBody (pm : Memref sig .scVector .vmem S2048 .i32) (inb outb : Memref sig .scVector .vmem S4x2048 .f32) :
    Fin k0_t3_loop.trips → Unit → Prog (TpuEff nD τ sig (Elt F) Λ₀ (.scVector a b)) Unit := fun k _ =>
  Prog.op (.load pm (Rect.unit (s := S2048) (k0_off6 k) S16.size (k0_off6_inb k)).toLoadRect (View.loadsAt_vmem h_S16)) fun v =>
    rowStep a b inb outb (broadcast S16 0#32) (k0_off7 k) (k0_off7_inb k) v (k0_chk1.dec v (broadcast S16 0#32)) <|
    rowStep a b inb outb (broadcast S16 1#32) (k0_off8 k) (k0_off8_inb k) v (k0_chk2.dec v (broadcast S16 1#32)) <|
    rowStep a b inb outb (broadcast S16 2#32) (k0_off9 k) (k0_off9_inb k) v (k0_chk3.dec v (broadcast S16 2#32)) <|
    rowStep a b inb outb (broadcast S16 3#32) (k0_off10 k) (k0_off10_inb k) v (k0_chk4.dec v (broadcast S16 3#32)) <|
    Prog.ret ()

/-- What holds after `k` trips: the first `16 k` columns of the out slab are the permuted slab's. -/
def gInv (pm : Memref sig .scVector .vmem S2048 .i32) (inb outb : Memref sig .scVector .vmem S4x2048 .f32)
    (fp : Buf (Elt F) (pm.view.loc (V d a b))) (fi : Buf (Elt F) (inb.view.loc (V d a b)))
    (hp : InCols (pm.view.read (Elt F) fp)) (k : Nat) (_ : Unit) : sProp 𝕄 :=
  iprop((pm.view.loc (V d a b) ↦{fullShare} fp) ∗ (inb.view.loc (V d a b) ↦{fullShare} fi)
    ∗ ∃ fo, ⌜∀ y : S4x2048.Idx, (y 1).val < 16 * k → outb.view.read (Elt F) fo y = permSlab _ hp (inb.view.read (Elt F) fi) y⌝
        ∗ (outb.view.loc (V d a b) ↦{fullShare} fo))

/-- The words a trip's check asks of: a row below four, and the permutation's words. -/
theorem chk_ok (rv v : IVec S16 32) (hr : ∀ x, (rv x).toNat < 4) (hv : ∀ x, (v x).toNat < 2048) :
    ∀ a x, ((![rv, v] : Fin 2 → IVec S16 32) a x).toNat < S4x2048.size a := fun a x => by
  match a with
  | 0 => exact hr x
  | 1 => exact hv x

/-- One trip. -/
theorem wp_gatherTrip (pm : Memref sig .scVector .vmem S2048 .i32) (inb outb : Memref sig .scVector .vmem S4x2048 .f32)
    (fp : Buf (Elt F) (pm.view.loc (V d a b))) (fi : Buf (Elt F) (inb.view.loc (V d a b)))
    (hp : InCols (pm.view.read (Elt F) fp)) (k : Fin k0_t3_loop.trips) (acc : Unit) :
    gInv d a b pm inb outb fp fi hp k.val acc
      ⊢ wp frame (wpE (defs₀ (F := F)) 𝒱₀ (V d a b) none) Set.univ (gatherBody a b pm inb outb k acc) (gInv d a b pm inb outb fp fi hp (k.val + 1)) := by
  unfold gInv
  iintro ⟨Hp, Hi, %fo, %hfo, Ho⟩
  unfold gatherBody
  iapply (wp_load 𝒱₀ (V d a b) none Set.univ (m := pm) (S := Finset.univ) (Finset.subset_univ _)) $$ Hp; iintro Hp
  have hv : ∀ (x : S16.Idx) (j : S2048.Idx), (j 0).val = 16 * k.val + (x 0).val →
      pm.view.readAt (Elt F) (Rect.unit (s := S2048) (k0_off6 k) S16.size (k0_off6_inb k)).toLoadRect fp x = pm.view.read (Elt F) fp j := by
    intro x j hj
    refine congrArg (pm.view.read (Elt F) fp) (funext fun a => ?_)
    match a with
    | 0 =>
      apply Fin.ext
      show k0_off6 k 0 + 1 * (x 0).val = (j 0).val
      rw [hj, k0_off6_eq]; simp
  have hlt : ∀ x : S16.Idx, (pm.view.readAt (Elt F) (Rect.unit (s := S2048) (k0_off6 k) S16.size (k0_off6_inb k)).toLoadRect fp x).toNat < 2048 :=
    fun x => hp _
  generalize pm.view.readAt (Elt F) (Rect.unit (s := S2048) (k0_off6 k) S16.size (k0_off6_inb k)).toLoadRect fp = v at hv hlt
  have c0 := chk_ok (broadcast S16 0#32) v (fun _ => (show (0#32 : BitVec 32).toNat < 4 by decide)) hlt
  have c1 := chk_ok (broadcast S16 1#32) v (fun _ => (show (1#32 : BitVec 32).toNat < 4 by decide)) hlt
  have c2 := chk_ok (broadcast S16 2#32) v (fun _ => (show (2#32 : BitVec 32).toNat < 4 by decide)) hlt
  have c3 := chk_ok (broadcast S16 3#32) v (fun _ => (show (3#32 : BitVec 32).toNat < 4 by decide)) hlt
  iapply (wp_rowStep d a b (inb := inb) (outb := outb) (fi := fi) (fo := fo) (L := []) c0) $$ [Hi Ho]
  · isplitl [Hi]; · iexact Hi
    iexact Ho
  iintro ⟨Hi, Ho⟩
  iapply (wp_rowStep d a b (inb := inb) (outb := outb) (fi := fi) (fo := fo) c1) $$ [Hi Ho]
  · isplitl [Hi]; · iexact Hi
    iexact Ho
  iintro ⟨Hi, Ho⟩
  iapply (wp_rowStep d a b (inb := inb) (outb := outb) (fi := fi) (fo := fo) c2) $$ [Hi Ho]
  · isplitl [Hi]; · iexact Hi
    iexact Ho
  iintro ⟨Hi, Ho⟩
  iapply (wp_rowStep d a b (inb := inb) (outb := outb) (fi := fi) (fo := fo) c3) $$ [Hi Ho]
  · isplitl [Hi]; · iexact Hi
    iexact Ho
  iintro ⟨Hi, Ho⟩
  rw [wp_ret]; imodintro
  isplitl [Hp]; · iexact Hp
  isplitl [Hi]; · iexact Hi
  iexists _
  isplitr; swap; · iexact Ho
  ipureintro
  have e7 := k0_off7_eq k; have e8 := k0_off8_eq k; have e9 := k0_off9_eq k; have e10 := k0_off10_eq k
  have P0 := rowPiece _ hp (inb.view.read (Elt F) fi) k.val 0 (broadcast S16 0#32) (fun _ => (show (0#32 : BitVec 32).toNat = 0 by decide)) (k0_off7 k) (k0_off7_inb k) (by rw [e7]; rfl) (by rw [e7]; rfl) v hv c0
  have P1 := rowPiece _ hp (inb.view.read (Elt F) fi) k.val 1 (broadcast S16 1#32) (fun _ => (show (1#32 : BitVec 32).toNat = 1 by decide)) (k0_off8 k) (k0_off8_inb k) (by rw [e8]; rfl) (by rw [e8]; rfl) v hv c1
  have P2 := rowPiece _ hp (inb.view.read (Elt F) fi) k.val 2 (broadcast S16 2#32) (fun _ => (show (2#32 : BitVec 32).toNat = 2 by decide)) (k0_off9 k) (k0_off9_inb k) (by rw [e9]; rfl) (by rw [e9]; rfl) v hv c2
  have P3 := rowPiece _ hp (inb.view.read (Elt F) fi) k.val 3 (broadcast S16 3#32) (fun _ => (show (3#32 : BitVec 32).toNat = 3 by decide)) (k0_off10 k) (k0_off10_inb k) (by rw [e10]; rfl) (by rw [e10]; rfl) v hv c3
  exact trip_read outb fo _ k.val _ rfl hfo _ _ _ _ _ _ _ _ (by rw [e7]; rfl) (by rw [e7]; rfl) (by rw [e8]; rfl) (by rw [e8]; rfl)
    (by rw [e9]; rfl) (by rw [e9]; rfl) (by rw [e10]; rfl) (by rw [e10]; rfl) _ _ _ _ P0 P1 P2 P3

/-- The whole inner loop ahead of a continuation: the out slab comes back holding the in slab's columns permuted. -/
theorem wp_gatherLoop (pm : Memref sig .scVector .vmem S2048 .i32) (inb outb : Memref sig .scVector .vmem S4x2048 .f32)
    (fp : Buf (Elt F) (pm.view.loc (V d a b))) (fi : Buf (Elt F) (inb.view.loc (V d a b))) (fo : Buf (Elt F) (outb.view.loc (V d a b)))
    (hp : InCols (pm.view.read (Elt F) fp)) {α : Type} (kk : Unit → Prog (TpuEff nD τ sig (Elt F) Λ₀ (.scVector a b)) α) (Q : α → sProp 𝕄) :
    iprop((pm.view.loc (V d a b) ↦{fullShare} fp) ∗ (inb.view.loc (V d a b) ↦{fullShare} fi) ∗ (outb.view.loc (V d a b) ↦{fullShare} fo))
      ⊢ iprop((∀ fo', ⌜outb.view.read (Elt F) fo' = permSlab _ hp (inb.view.read (Elt F) fi)⌝ -∗
            iprop((pm.view.loc (V d a b) ↦{fullShare} fp) ∗ (inb.view.loc (V d a b) ↦{fullShare} fi) ∗ (outb.view.loc (V d a b) ↦{fullShare} fo'))
            -∗ wp frame (wpE (defs₀ (F := F)) 𝒱₀ (V d a b) none) Set.univ (kk ()) Q)
        -∗ wp frame (wpE (defs₀ (F := F)) 𝒱₀ (V d a b) none) Set.univ
          (Scf.Loop.for k0_t3_loop k0_t3_ok () (gatherBody a b pm inb outb) >>= kk) Q) := by
  iintro ⟨Hp, Hi, Ho⟩ Hk
  iapply (Scf.wp_for_bind frame (wpE (defs₀ (F := F)) 𝒱₀ (V d a b) none) Set.univ _ _ _ k0_t3_ok () (gatherBody a b pm inb outb)
    (gInv d a b pm inb outb fp fi hp) (wp_gatherTrip d a b pm inb outb fp fi hp)) $$ [Hp Hi Ho]
  · unfold gInv
    isplitl [Hp]; · iexact Hp
    isplitl [Hi]; · iexact Hi
    iexists fo
    isplitr; swap; · iexact Ho
    ipureintro; intro y hy; omega
  iintro %acc HI
  unfold gInv
  icases HI with ⟨Hp, Hi, %fo', %hfo, Ho⟩
  ispecialize Hk $$ %fo' [] [Hp Hi Ho]
  · ipureintro
    funext y
    refine hfo y ?_
    have : (y 1).val < 2048 := (y 1).isLt
    have ht : Scf.trips k0_t3_loop.lb k0_t3_loop.ub k0_t3_loop.st = 128 := by decide
    rw [ht]; omega
  · isplitl [Hp]; · iexact Hp
    isplitl [Hi]; · iexact Hi
    iexact Ho
  iexact Hk

end Cert.Proof.Perm

end
-- ==== Proof.Rows.lean ====
/-
  Where a tile works: the tile at grid coordinates `L` has the 512 rows from `base L` on, in 128 chunks of four. A chunk's
  slab of a whole array has the elements of its rows, and the rows of a span split at any row within it.
-/
module

public import proofs.«01_k».proof.Proof.Gather

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The operands and the results, as device `d` holds them. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0_0
abbrev lLoc (d : Dev nD) : Loc nD τ sig := (SparseCore.T d).loc main_v0_1

/-- The same arrays as a tile addresses them, and its own scratch. -/
abbrev xV : Memref sig .scVector .hbm S16384x2048 .f32 := Memref.whole main_arg0_scv
abbrev pV : Memref sig .scVector .hbm S2048 .i32 := Memref.whole main_arg1_scv
abbrev oV : Memref sig .scVector .hbm S16384x2048 .f32 := Memref.whole main_v0_0_scv
abbrev lV : Memref sig .scVector .hbm S16384 .f32 := Memref.whole main_v0_1_scv
abbrev pmV : Memref sig .scVector .vmem S2048 .i32 := Memref.whole cc0_scratch0
abbrev zV : Memref sig .scVector .vmem S512 .f32 := Memref.whole cc0_scratch1

/-- The first row of the tile at `L`. -/
def base (L : grid0.Coords) : Nat := 1024 * (L 1).val + 512 * (L 0).val

theorem base_le (L : grid0.Coords) : base L + 512 ≤ 16384 := by
  have h0 : (L 0).val < 2 := (L 0).isLt
  have h1 : (L 1).val < 16 := (L 1).isLt
  unfold base; omega

/-- The elements of rows `lo` to `hi`. -/
def rows (lo hi : Nat) : Finset S16384x2048.Idx := Finset.univ.filter fun i => lo ≤ (i 0).val ∧ (i 0).val < hi

theorem mem_rows {lo hi : Nat} {i : S16384x2048.Idx} : i ∈ rows lo hi ↔ lo ≤ (i 0).val ∧ (i 0).val < hi := by
  simp [rows]

theorem rows_union {a b c : Nat} (hab : a ≤ b) (hbc : b ≤ c) : rows a b ∪ rows b c = rows a c := by
  ext i; rw [Finset.mem_union, mem_rows, mem_rows, mem_rows]; omega

theorem rows_disjoint {a b c e : Nat} (h : b ≤ c) : Disjoint (rows a b) (rows c e) :=
  Finset.disjoint_left.mpr fun i hi hj => by rw [mem_rows] at hi hj; omega

theorem rows_empty (a : Nat) : rows a a = ∅ := by
  ext i; rw [mem_rows]; simp

/-- The rows of chunk `n` of the tile at `L`. -/
abbrev chunk (L : grid0.Coords) (n : Nat) : Finset S16384x2048.Idx := rows (base L + 4 * n) (base L + 4 * n + 4)

/-- Four whole rows of a whole array, from offset `off` on. -/
abbrev slab (M : Memref sig .scVector .hbm S16384x2048 .f32) (off : Fin 2 → Nat) (hoff : ∀ a, off a + S4x2048.size a ≤ S16384x2048.size a) :
    Memref sig .scVector .hbm S4x2048 .f32 :=
  M.slice (Rect.unit (s := S16384x2048) off S4x2048.size hoff) (fun _ => rfl)

theorem mem_slabRect {off : Fin 2 → Nat} {hoff : ∀ a, off a + S4x2048.size a ≤ S16384x2048.size a} {r : Nat} (h0 : off 0 = r) (h1 : off 1 = 0)
    (i : S16384x2048.Idx) : i ∈ (Rect.unit (s := S16384x2048) off S4x2048.size hoff).set ↔ i ∈ rows r (r + 4) := by
  rw [Rect.mem_set_unit, mem_rows]
  constructor
  · intro h
    have h' := h 0
    rw [h0] at h'
    exact ⟨h'.1, h'.2⟩
  · intro h a
    match a with
    | 0 => exact ⟨by rw [h0]; exact h.1, by rw [h0]; exact h.2⟩
    | 1 => exact ⟨by rw [h1]; exact Nat.zero_le _, by rw [h1]; show (i 1).val < 0 + 2048; have : (i 1).val < 2048 := (i 1).isLt; omega⟩

theorem set_slab_x {off : Fin 2 → Nat} {hoff : ∀ a, off a + S4x2048.size a ≤ S16384x2048.size a} {r : Nat} (h0 : off 0 = r) (h1 : off 1 = 0) :
    (slab xV off hoff).view.set = rows r (r + 4) := by
  show ((View.whole (main_arg0_scv : Ref sig .scVector)).slice _).set = _
  rw [View.set_slice]
  exact Finset.map_refl.trans (Finset.ext fun i => mem_slabRect (hoff := hoff) h0 h1 i)

theorem set_slab_o {off : Fin 2 → Nat} {hoff : ∀ a, off a + S4x2048.size a ≤ S16384x2048.size a} {r : Nat} (h0 : off 0 = r) (h1 : off 1 = 0) :
    (slab oV off hoff).view.set = rows r (r + 4) := by
  show ((View.whole (main_v0_0_scv : Ref sig .scVector)).slice _).set = _
  rw [View.set_slice]
  exact Finset.map_refl.trans (Finset.ext fun i => mem_slabRect (hoff := hoff) h0 h1 i)

/-- `fr` is the array `X`'s four rows from `r` on. -/
def IsRows (r : Nat) (fr : S4x2048.Idx → F .f32) (X : S16384x2048.Idx → F .f32) : Prop :=
  ∀ (y : S4x2048.Idx) (i : S16384x2048.Idx), (i 0).val = r + (y 0).val → (i 1).val = (y 1).val → fr y = X i

theorem slabRect_emb {off : Fin 2 → Nat} {hoff : ∀ a, off a + S4x2048.size a ≤ S16384x2048.size a} {r : Nat} (h0 : off 0 = r) (h1 : off 1 = 0)
    (y : S4x2048.Idx) (i : S16384x2048.Idx) (e0 : (i 0).val = r + (y 0).val) (e1 : (i 1).val = (y 1).val) :
    (Rect.unit (s := S16384x2048) off S4x2048.size hoff).emb y = i := by
  funext a
  match a with
  | 0 => apply Fin.ext; show off 0 + 1 * (y 0).val = (i 0).val; omega
  | 1 => apply Fin.ext; show off 1 + 1 * (y 1).val = (i 1).val; omega

/-- What a slab of `x` reads is its four rows. -/
theorem isRows_slab {off : Fin 2 → Nat} {hoff : ∀ a, off a + S4x2048.size a ≤ S16384x2048.size a} {r : Nat} (h0 : off 0 = r) (h1 : off 1 = 0)
    (X : S16384x2048.Idx → F .f32) : IsRows r ((slab xV off hoff).view.read (Elt F) X) X := by
  intro y i e0 e1
  rw [← slabRect_emb (hoff := hoff) h0 h1 y i e0 e1]
  rfl

/-- The array `X` with its columns permuted: what the kernel's first result is. -/
def outV (p : S2048.Idx → BitVec 32) (hp : InCols p) (X : S16384x2048.Idx → F .f32) : S16384x2048.Idx → F .f32 :=
  fun i => X (fun | 0 => i 0 | 1 => colOf p hp (i 1))

/-- Four rows' slab permuted is the permuted array's four rows. -/
theorem isRows_permSlab {r : Nat} {fr : S4x2048.Idx → F .f32} {X : S16384x2048.Idx → F .f32} (h : IsRows r fr X)
    (p : S2048.Idx → BitVec 32) (hp : InCols p) : IsRows r (permSlab p hp fr) (outV p hp X) := by
  intro y i e0 e1
  refine h _ _ e0 ?_
  show (colOf p hp (i 1)).val = (colOf p hp (y 1)).val
  rw [show (i 1 : Fin 2048) = (y 1 : Fin 2048) from Fin.ext e1]

/-- A slab of the result written with four rows of `Y` agrees with `Y` on those rows. -/
theorem write_slab {off : Fin 2 → Nat} {hoff : ∀ a, off a + S4x2048.size a ≤ S16384x2048.size a} {r : Nat} (h0 : off 0 = r) (h1 : off 1 = 0)
    (fd : S16384x2048.Idx → F .f32) {fr : S4x2048.Idx → F .f32} {Y : S16384x2048.Idx → F .f32} (h : IsRows r fr Y) :
    ∀ i ∈ rows r (r + 4), (slab oV off hoff).view.write (Elt F) fd fr Finset.univ i = Y i := by
  intro i hi
  rw [mem_rows] at hi
  have hy : (i 0).val - r < 4 := by omega
  let y : S4x2048.Idx := fun | 0 => ⟨(i 0).val - r, hy⟩ | 1 => i 1
  have e0 : (i 0).val = r + (y 0).val := by show (i 0).val = r + ((i 0).val - r); omega
  have e1 : (i 1).val = (y 1).val := rfl
  have he := slabRect_emb (hoff := hoff) h0 h1 y i e0 e1
  rw [← h y i e0 e1]
  have hr := congrFun (View.read_write_univ (v := (slab oV off hoff).view) (Val := Elt F) fd fr) y
  rw [View.read_apply] at hr
  have hemb : (slab oV off hoff).view.emb y = i := he
  rw [hemb] at hr
  exact (cast_eq _ _).symm.trans hr

end Cert.Proof.Perm

end
-- ==== Proof.Slot.lean ====
/-
  One slot of the tile's ring: its in buffer, its out buffer and their two semaphores. What the slot holds while a
  transfer is under way and while none is, and a lemma for each thing the kernel does with it — start a copy in, wait for
  it, gather, start a copy out, wait for that.
-/
module

public import proofs.«01_k».proof.Proof.Rows

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- What the tile owes, its waits so far being the launch's or of its own transfers. -/
def owesI (O : CellTallies nD τ sig (HIx 1)) (W : Waits sig (HIx 1)) : sProp 𝕄 :=
  iprop(∃ W', ⌜∀ p ∈ W', p ∈ W ∨ p.2 = none⌝ ∗ owes (thr d L) O W')

section In

variable (X : S16384x2048.Idx → F .f32) (q : PosShare TreeShare) (inb : Memref sig .scVector .vmem S4x2048 .f32) (sI : DmaSem sig)

/-- The in buffer free, the slot's share of `x` whole, the semaphore at zero. -/
def InIdle : sProp 𝕄 :=
  iprop((∃ fi, inb.view.loc (thr d L) ↦{fullShare} fi) ∗ (xLoc d ↦{q} X) ∗ semVal (thr d L, SemLoc.dma sI) 0)

/-- What the copy in of chunk `n` delivers: the in buffer at the chunk's rows, and the share of those rows back. -/
def InDel (n : Nat) : sProp 𝕄 :=
  iprop((∃ fi, ⌜IsRows (base L + 4 * n) (inb.view.read (Elt F) fi) X⌝ ∗ (inb.view.loc (thr d L) ↦{fullShare} fi)) ∗ (xLoc d ↦[chunk L n]{q} X))

/-- The copy in of chunk `n` under way. -/
def InFly (n : Nat) : sProp 𝕄 :=
  iprop(Transfers.Flight countersEmb (thr d L) (SemLoc.dma sI) (default : HIx 1) inb.view.dmaCredit (InDel d L X q inb n)
    ∗ (xLoc d ↦[Finset.univ \ chunk L n]{q} X))

/-- The copy in of a chunk starts. -/
theorem wp_startIn {α : Type} {off : Fin 2 → Nat} {hoff : ∀ a, off a + S4x2048.size a ≤ S16384x2048.size a} (n : Nat)
    (h0 : off 0 = base L + 4 * n) (h1 : off 1 = 0)
    {hsrc : (slab xV off hoff).view.WordExact} {hdst : inb.view.WordExact} {hsem : DmaTarget.Typed (nD := nD) (p := (thr d L).2) Space.hbm (SemLoc.dma sI) (.here inb)}
    (k : PUnit → Prog (TpuEff nD τ sig (Elt F) Λ₀ (thr d L).2) α) (Q : α → sProp 𝕄) :
    InIdle d L X q inb sI
      ⊢ iprop((InFly d L X q inb sI n -∗ wp frame (wpE (defs₀ (F := F)) 𝒱₀ (thr d L) none) Set.univ (k ⟨⟩) Q)
        -∗ wp frame (wpE (defs₀ (F := F)) 𝒱₀ (thr d L) none) Set.univ
          (.op (.enqueueDma (slab xV off hoff) (.here inb) (.dma sI) hsrc hdst hsem) k) Q) := by
  unfold InIdle
  iintro ⟨⟨%fi, Hb⟩, Hx, Hs⟩ Hk
  ihave Hx2 := (pointsTo_split_subset (q := q) (ℓ := xLoc d) (f := X) (S := Finset.univ) (Finset.subset_univ (chunk L n))).1 $$ Hx
  icases Hx2 with ⟨Hx, Hxr⟩
  have hset := set_slab_x (hoff := hoff) h0 h1
  iapply (Transfers.wp_dmaLocal countersEmb 𝒱₀ (thr d L) none (src := slab xV off hoff) (dst := inb) (q := q) (fs := X) (Sd := Finset.univ) (fd := fi)
    (default : HIx 1) inb.view.dmaCredit rfl (inb.view.dmaCredit_pos (by decide)) (Finset.subset_univ _)) $$ [Hx Hb Hs]
  · isplitl [Hx]
    · rw [hset]; iexact Hx
    isplitl [Hb]; · iexact Hb
    iexact Hs
  iintro Hfl
  iapply Hk
  unfold InFly
  isplitr [Hxr]; swap; · iexact Hxr
  iapply (Transfers.Flight_mono ?_) $$ Hfl
  unfold InDel
  rw [hset]
  iintro ⟨Hb, Hx⟩
  isplitl [Hb]
  · iexists _
    isplitr; swap; · iexact Hb
    ipureintro
    rw [View.read_write_univ]
    exact isRows_slab h0 h1 X
  iexact Hx

/-- The copy in of chunk `n` is waited for. -/
theorem wp_waitIn {α : Type} {s' : Shape} {e' : EltTy} {sp' : Space} (n : Nat) (O : CellTallies nD τ sig (HIx 1)) (W : Waits sig (HIx 1))
    {src : Memref sig .scVector sp' s' e'} {hsrc : src.view.WordExact} {hdst : inb.view.WordExact}
    (k : PUnit → Prog (TpuEff nD τ sig (Elt F) Λ₀ (thr d L).2) α) (Q : α → sProp 𝕄) :
    iprop(InFly d L X q inb sI n ∗ owesI d L O W ∗ Transfers.MayWaits (thr d L) (default : HIx 1) O)
      ⊢ iprop((iprop((∃ fi, ⌜IsRows (base L + 4 * n) (inb.view.read (Elt F) fi) X⌝ ∗ (inb.view.loc (thr d L) ↦{fullShare} fi))
            ∗ (xLoc d ↦{q} X) ∗ semVal (thr d L, SemLoc.dma sI) 0 ∗ owesI d L O W)
          -∗ wp frame (wpE (defs₀ (F := F)) 𝒱₀ (thr d L) none) Set.univ (k ⟨⟩) Q)
        -∗ wp frame (wpE (defs₀ (F := F)) 𝒱₀ (thr d L) none) Set.univ (.op (.waitDma2 sI src inb hsrc hdst) k) Q) := by
  unfold InFly owesI
  iintro ⟨⟨Hfl, Hxr⟩, ⟨%W', %hW', HO⟩, Hmw⟩ Hk
  iapply (Transfers.wp_waitLocalO countersEmb 𝒱₀ (thr d L) none (default : HIx 1) (rfl : inb.view.dmaCredit = _)) $$ [Hfl HO Hmw]
  · isplitl [Hfl]; · iexact Hfl
    isplitl [HO]; · iexact HO
    iapply (Transfers.MayWaits.elim (SemLoc.dma sI)) $$ Hmw
  unfold InDel
  iintro ⟨⟨Hb, Hx⟩, Hs, HO⟩
  iapply Hk
  isplitl [Hb]; · iexact Hb
  isplitl [Hx Hxr]
  · iapply (pointsTo_split_subset (q := q) (ℓ := xLoc d) (f := X) (S := Finset.univ) (Finset.subset_univ (chunk L n))).2
    isplitl [Hx]; · iexact Hx
    iexact Hxr
  isplitl [Hs]; · iexact Hs
  iexists _; isplitr
  swap; · iexact HO
  ipureintro; intro p hp
  rcases Finset.mem_insert.mp hp with hp | hp; · exact .inr (hp ▸ rfl)
  exact hW' p hp

end In

section Out

variable (Y : S16384x2048.Idx → F .f32) (outb : Memref sig .scVector .vmem S4x2048 .f32) (sO : DmaSem sig)

/-- What a copy out adds to its semaphore. -/
def creditO : Nat := (slab oV ![0, 0] (by decide)).view.dmaCredit

/-- The out buffer free, the semaphore at zero. -/
def OutIdle : sProp 𝕄 := iprop((∃ fo, outb.view.loc (thr d L) ↦{fullShare} fo) ∗ semVal (thr d L, SemLoc.dma sO) 0)

/-- What the copy out of chunk `n` delivers: the chunk's rows of the result at their value, and the out buffer back. -/
def OutDel (n : Nat) : sProp 𝕄 := iprop((oLoc d ↦[chunk L n]{fullShare} Y) ∗ ∃ fo, outb.view.loc (thr d L) ↦{fullShare} fo)

/-- The copy out of chunk `n` under way. -/
def OutFly (n : Nat) : sProp 𝕄 := Transfers.Flight countersEmb (thr d L) (SemLoc.dma sO) (default : HIx 1) creditO (OutDel d L Y outb n)

/-- The copy out of a chunk starts. -/
theorem wp_startOut {α : Type} {off : Fin 2 → Nat} {hoff : ∀ a, off a + S4x2048.size a ≤ S16384x2048.size a} (n : Nat)
    (h0 : off 0 = base L + 4 * n) (h1 : off 1 = 0) (hfull : outb.view.set = Finset.univ)
    {hsrc : outb.view.WordExact} {hdst : (slab oV off hoff).view.WordExact}
    {hsem : DmaTarget.Typed (nD := nD) (p := (thr d L).2) Space.vmem (SemLoc.dma sO) (.here (slab oV off hoff))}
    (fd : S16384x2048.Idx → F .f32) (fo : Buf (Elt F) (outb.view.loc (thr d L))) (hrows : IsRows (base L + 4 * n) (outb.view.read (Elt F) fo) Y)
    (k : PUnit → Prog (TpuEff nD τ sig (Elt F) Λ₀ (thr d L).2) α) (Q : α → sProp 𝕄) :
    iprop((oLoc d ↦[chunk L n]{fullShare} fd) ∗ (outb.view.loc (thr d L) ↦{fullShare} fo) ∗ semVal (thr d L, SemLoc.dma sO) 0)
      ⊢ iprop((OutFly d L Y outb sO n -∗ wp frame (wpE (defs₀ (F := F)) 𝒱₀ (thr d L) none) Set.univ (k ⟨⟩) Q)
        -∗ wp frame (wpE (defs₀ (F := F)) 𝒱₀ (thr d L) none) Set.univ
          (.op (.enqueueDma outb (.here (slab oV off hoff)) (.dma sO) hsrc hdst hsem) k) Q) := by
  iintro ⟨Ho, Hb, Hs⟩ Hk
  have hset := set_slab_o (hoff := hoff) h0 h1
  iapply (Transfers.wp_dmaLocal countersEmb 𝒱₀ (thr d L) none (src := outb) (dst := slab oV off hoff) (q := fullShare) (fs := fo) (Sd := chunk L n) (fd := fd)
    (default : HIx 1) creditO rfl (View.dmaCredit_pos _ (by decide)) (by rw [hset])) $$ [Ho Hb Hs]
  · isplitl [Hb]
    · rw [hfull]; iexact Hb
    isplitl [Ho]; · iexact Ho
    iexact Hs
  iintro Hfl
  iapply Hk
  unfold OutFly
  iapply (Transfers.Flight_mono ?_) $$ Hfl
  unfold OutDel
  rw [hfull]
  iintro ⟨Ho, Hb⟩
  isplitl [Ho]
  · iapply (Entails.of_eq (pointsTo_congr (ℓ := oLoc d) (q := fullShare) (I := chunk L n) (write_slab (hoff := hoff) h0 h1 fd hrows)))
    iexact Ho
  iexists _; iexact Hb

/-- The copy out of chunk `n` is waited for. -/
theorem wp_waitOut {α : Type} {s' : Shape} {e' : EltTy} {sp' : Space} (n : Nat) (O : CellTallies nD τ sig (HIx 1)) (W : Waits sig (HIx 1))
    {off : Fin 2 → Nat} {hoff : ∀ a, off a + S4x2048.size a ≤ S16384x2048.size a}
    {src : Memref sig .scVector sp' s' e'} {hsrc : src.view.WordExact} {hdst : (slab oV off hoff).view.WordExact}
    (k : PUnit → Prog (TpuEff nD τ sig (Elt F) Λ₀ (thr d L).2) α) (Q : α → sProp 𝕄) :
    iprop(OutFly d L Y outb sO n ∗ owesI d L O W ∗ Transfers.MayWaits (thr d L) (default : HIx 1) O)
      ⊢ iprop((iprop((oLoc d ↦[chunk L n]{fullShare} Y) ∗ OutIdle d L outb sO ∗ owesI d L O W)
          -∗ wp frame (wpE (defs₀ (F := F)) 𝒱₀ (thr d L) none) Set.univ (k ⟨⟩) Q)
        -∗ wp frame (wpE (defs₀ (F := F)) 𝒱₀ (thr d L) none) Set.univ (.op (.waitDma2 sO src (slab oV off hoff) hsrc hdst) k) Q) := by
  unfold OutFly owesI OutIdle
  iintro ⟨Hfl, ⟨%W', %hW', HO⟩, Hmw⟩ Hk
  iapply (Transfers.wp_waitLocalO countersEmb 𝒱₀ (thr d L) none (default : HIx 1) (rfl : (slab oV off hoff).view.dmaCredit = creditO)) $$ [Hfl HO Hmw]
  · isplitl [Hfl]; · iexact Hfl
    isplitl [HO]; · iexact HO
    iapply (Transfers.MayWaits.elim (SemLoc.dma sO)) $$ Hmw
  unfold OutDel
  iintro ⟨⟨Ho, Hb⟩, Hs, HO⟩
  iapply Hk
  isplitl [Ho]; · iexact Ho
  isplitl [Hb Hs]
  · isplitl [Hb]; · iexact Hb
    iexact Hs
  iexists _; isplitr
  swap; · iexact HO
  ipureintro; intro p hp
  rcases Finset.mem_insert.mp hp with hp | hp; · exact .inr (hp ▸ rfl)
  exact hW' p hp

end Out

end Cert.Proof.Perm

end
-- ==== Proof.Ring.lean ====
/-
  A slot's part of a trip of the tile's main loop, in two halves: the waits — for the slot's copy in, and from the second
  trip on for its copy out of the trip before — and then the gather, the copy out of what it made, and the next copy in
  unless the trip is the last.
-/
module

public import proofs.«01_k».proof.Proof.Slot

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)
variable (X Y Y0 : S16384x2048.Idx → F .f32)

/-- The tile's rows of the result from chunk `k` on, as the launch left them. -/
def Rest (k : Nat) : sProp 𝕄 := oLoc d ↦[rows (base L + 4 * k) (base L + 512)]{fullShare} Y0

/-- The tile's rows of the result up to chunk `k`, at their value. -/
def Done (k : Nat) : sProp 𝕄 := oLoc d ↦[rows (base L) (base L + 4 * k)]{fullShare} Y

omit [FloatOps F] in
theorem rest_take (k : Nat) (hk : k < 128) :
    Rest d L Y0 k ⊢ iprop((oLoc d ↦[chunk L k]{fullShare} Y0) ∗ Rest d L Y0 (k + 1)) := by
  unfold Rest
  rw [← rows_union (a := base L + 4 * k) (b := base L + 4 * k + 4) (c := base L + 512) (by omega) (by omega),
    show base L + 4 * (k + 1) = base L + 4 * k + 4 by omega]
  exact (pointsTo_union (rows_disjoint (le_refl _))).1

omit [FloatOps F] in
theorem done_put (k : Nat) :
    iprop(Done d L Y k ∗ (oLoc d ↦[chunk L k]{fullShare} Y)) ⊢ Done d L Y (k + 1) := by
  unfold Done
  rw [← rows_union (a := base L) (b := base L + 4 * k) (c := base L + 4 * (k + 1)) (by omega) (by omega),
    show base L + 4 * (k + 1) = base L + 4 * k + 4 by omega]
  exact (pointsTo_union (rows_disjoint (le_refl _))).2

section Slot

variable (q : PosShare TreeShare) (inb outb : Memref sig .scVector .vmem S4x2048 .f32) (sI sO : DmaSem sig) (b : Nat)

/-- The slot's in side before trip `g`: its chunk of the trip on the way in, unless the trips are over. -/
def InSt (g : Nat) : sProp 𝕄 := if g < 32 then InFly d L X q inb sI (4 * g + b) else InIdle d L X q inb sI

/-- The slot's out side before trip `g`: its chunk of the trip before on the way out, if there was one. -/
def OutSt (g : Nat) : sProp 𝕄 := if 0 < g then OutFly d L Y outb sO (4 * (g - 1) + b) else OutIdle d L outb sO

/-- The in side between its wait and the next copy in. -/
def InMid (n : Nat) : sProp 𝕄 :=
  iprop((∃ fi, ⌜IsRows (base L + 4 * n) (inb.view.read (Elt F) fi) X⌝ ∗ (inb.view.loc (thr d L) ↦{fullShare} fi))
    ∗ (xLoc d ↦{q} X) ∗ semVal (thr d L, SemLoc.dma sI) 0)

/-- The waits of a slot's part of a trip. -/
abbrev headP {α : Type} (src : Memref sig .scVector .hbm S4x2048 .f32) (hs : src.view.WordExact) (hi : inb.view.WordExact)
    (c1 : Prop) [Decidable c1] (off : Fin 2 → Nat) (hoff : c1 → ∀ a, off a + S4x2048.size a ≤ S16384x2048.size a) (ho : outb.view.WordExact)
    (hd : ∀ h, (slab oV off (hoff h)).view.WordExact)
    (kk : Unit → Prog (TpuEff nD τ sig (Elt F) Λ₀ (.scVector (cV L) (jV L))) α) : Prog (TpuEff nD τ sig (Elt F) Λ₀ (.scVector (cV L) (jV L))) α := do
  Prog.lift (.waitDma2 sI src inb hs hi)
  if h : c1 then do
    Prog.lift (.waitDma2 sO outb (slab oV off (hoff h)) ho (hd h))
    pure ⟨⟩
  else do
    pure ⟨⟩
  kk ⟨⟩

/-- The waits' program, from the second trip on and on the first. -/
theorem headP_pos {α : Type} {src : Memref sig .scVector .hbm S4x2048 .f32} {hs : src.view.WordExact} {hi : inb.view.WordExact}
    {c1 : Prop} [Decidable c1] {off : Fin 2 → Nat} {hoff : c1 → ∀ a, off a + S4x2048.size a ≤ S16384x2048.size a} {ho : outb.view.WordExact}
    {hd : ∀ h, (slab oV off (hoff h)).view.WordExact}
    (kk : Unit → Prog (TpuEff nD τ sig (Elt F) Λ₀ (.scVector (cV L) (jV L))) α) (h : c1) :
    headP L inb outb sI sO src hs hi c1 off hoff ho hd kk
      = .op (.waitDma2 sI src inb hs hi) fun _ => .op (.waitDma2 sO outb (slab oV off (hoff h)) ho (hd h)) fun _ => kk ⟨⟩ := by
  unfold headP; rw [dif_pos h]; rfl

theorem headP_neg {α : Type} {src : Memref sig .scVector .hbm S4x2048 .f32} {hs : src.view.WordExact} {hi : inb.view.WordExact}
    {c1 : Prop} [Decidable c1] {off : Fin 2 → Nat} {hoff : c1 → ∀ a, off a + S4x2048.size a ≤ S16384x2048.size a} {ho : outb.view.WordExact}
    {hd : ∀ h, (slab oV off (hoff h)).view.WordExact}
    (kk : Unit → Prog (TpuEff nD τ sig (Elt F) Λ₀ (.scVector (cV L) (jV L))) α) (h : ¬ c1) :
    headP L inb outb sI sO src hs hi c1 off hoff ho hd kk = .op (.waitDma2 sI src inb hs hi) fun _ => kk ⟨⟩ := by
  unfold headP; rw [dif_neg h]; rfl

/-- A slot's waits: the in side's chunk is in, the out side is free, one chunk more of the result is done. -/
theorem wp_head {α : Type} {src : Memref sig .scVector .hbm S4x2048 .f32} {hs : src.view.WordExact} {hi : inb.view.WordExact}
    {c1 : Prop} [Decidable c1] {off : Fin 2 → Nat} {hoff : c1 → ∀ a, off a + S4x2048.size a ≤ S16384x2048.size a} {ho : outb.view.WordExact}
    {hd : ∀ h, (slab oV off (hoff h)).view.WordExact}
    (g : Nat) (hg : g < 32) (hb : b < 4) (hc : c1 ↔ 0 < g) (O : CellTallies nD τ sig (HIx 1)) (W : Waits sig (HIx 1))
    (kk : Unit → Prog (TpuEff nD τ sig (Elt F) Λ₀ (.scVector (cV L) (jV L))) α) (Q : α → sProp 𝕄) :
    iprop(InSt d L X q inb sI b g ∗ OutSt d L Y outb sO b g ∗ Done d L Y (4 * g + b - 4) ∗ owesI d L O W
        ∗ □ Transfers.MayWaits (thr d L) (default : HIx 1) O)
      ⊢ iprop((iprop(InMid d L X q inb sI (4 * g + b) ∗ OutIdle d L outb sO ∗ Done d L Y (4 * g + (b + 1) - 4) ∗ owesI d L O W)
          -∗ wp frame (wpE (defs₀ (F := F)) 𝒱₀ (thr d L) none) Set.univ (kk ⟨⟩) Q)
        -∗ wp frame (wpE (defs₀ (F := F)) 𝒱₀ (thr d L) none) Set.univ
          (headP L inb outb sI sO src hs hi c1 off hoff ho hd kk) Q) := by
  unfold InSt OutSt
  rw [if_pos hg]
  by_cases h0 : 0 < g
  · rw [if_pos h0, headP_pos L inb outb sI sO kk (hc.mpr h0)]
    iintro ⟨Hin, Hout, Hd, HO, #Hmw⟩ Hk
    iapply (wp_waitIn d L X q inb sI (4 * g + b) O W) $$ [Hin HO]
    · isplitl [Hin]; · iexact Hin
      isplitl [HO]; · iexact HO
      iexact Hmw
    iintro ⟨Hb, Hx, Hs, HO⟩
    iapply (wp_waitOut d L Y outb sO (4 * (g - 1) + b) O W) $$ [Hout HO]
    · isplitl [Hout]; · iexact Hout
      isplitl [HO]; · iexact HO
      iexact Hmw
    iintro ⟨Ho, Hout, HO⟩
    iapply Hk
    unfold InMid
    isplitl [Hb Hx Hs]
    · isplitl [Hb]; · iexact Hb
      isplitl [Hx]; · iexact Hx
      iexact Hs
    isplitl [Hout]; · iexact Hout
    isplitl [Hd Ho]
    · rw [show 4 * g + (b + 1) - 4 = (4 * (g - 1) + b) + 1 by omega, show 4 * g + b - 4 = 4 * (g - 1) + b by omega]
      iapply (done_put d L Y (4 * (g - 1) + b))
      isplitl [Hd]; · iexact Hd
      iexact Ho
    iexact HO
  · rw [if_neg h0, headP_neg L inb outb sI sO kk (fun h => h0 (hc.mp h))]
    iintro ⟨Hin, Hout, Hd, HO, #Hmw⟩ Hk
    iapply (wp_waitIn d L X q inb sI (4 * g + b) O W) $$ [Hin HO]
    · isplitl [Hin]; · iexact Hin
      isplitl [HO]; · iexact HO
      iexact Hmw
    iintro ⟨Hb, Hx, Hs, HO⟩
    iapply Hk
    unfold InMid
    isplitl [Hb Hx Hs]
    · isplitl [Hb]; · iexact Hb
      isplitl [Hx]; · iexact Hx
      iexact Hs
    isplitl [Hout]; · iexact Hout
    isplitl [Hd]
    · rw [show 4 * g + (b + 1) - 4 = 4 * g + b - 4 by omega]
      iexact Hd
    iexact HO

/-- The rest of a slot's part of a trip. -/
abbrev tailP {α : Type} (off : Fin 2 → Nat) (hoff : ∀ a, off a + S4x2048.size a ≤ S16384x2048.size a)
    (ho : outb.view.WordExact) (hd : (slab oV off hoff).view.WordExact)
    (ht : DmaTarget.Typed (nD := nD) (p := .scVector (cV L) (jV L)) Space.vmem (SemLoc.dma sO) (.here (slab oV off hoff)))
    (c2 : Prop) [Decidable c2] (off' : Fin 2 → Nat) (hoff' : c2 → ∀ a, off' a + S4x2048.size a ≤ S16384x2048.size a)
    (hs : ∀ h, (slab xV off' (hoff' h)).view.WordExact) (hi : inb.view.WordExact)
    (ht' : DmaTarget.Typed (nD := nD) (p := .scVector (cV L) (jV L)) Space.hbm (SemLoc.dma sI) (.here inb))
    (kk : Unit → Prog (TpuEff nD τ sig (Elt F) Λ₀ (.scVector (cV L) (jV L))) α) : Prog (TpuEff nD τ sig (Elt F) Λ₀ (.scVector (cV L) (jV L))) α := do
  Scf.Loop.for k0_t3_loop k0_t3_ok () (gatherBody (cV L) (jV L) pmV inb outb)
  Prog.lift (.enqueueDma outb (.here (slab oV off hoff)) (.dma sO) ho hd ht)
  if h : c2 then do
    Prog.lift (.enqueueDma (slab xV off' (hoff' h)) (.here inb) (.dma sI) (hs h) hi ht')
    pure ⟨⟩
  else do
    pure ⟨⟩
  kk ⟨⟩

/-- The rest of a slot's part: the gathered rows on the way out, and the slot's next chunk, if there is one, on the way in. -/
theorem wp_tail {α : Type} {off : Fin 2 → Nat} {hoff : ∀ a, off a + S4x2048.size a ≤ S16384x2048.size a}
    {ho : outb.view.WordExact} {hd : (slab oV off hoff).view.WordExact}
    {ht : DmaTarget.Typed (nD := nD) (p := .scVector (cV L) (jV L)) Space.vmem (SemLoc.dma sO) (.here (slab oV off hoff))}
    {c2 : Prop} [Decidable c2] {off' : Fin 2 → Nat} {hoff' : c2 → ∀ a, off' a + S4x2048.size a ≤ S16384x2048.size a}
    {hs : ∀ h, (slab xV off' (hoff' h)).view.WordExact} {hi : inb.view.WordExact}
    {ht' : DmaTarget.Typed (nD := nD) (p := .scVector (cV L) (jV L)) Space.hbm (SemLoc.dma sI) (.here inb)}
    (P : Buf (Elt F) ((pmV).view.loc (thr d L))) (hp : InCols ((pmV).view.read (Elt F) P))
    (hY : Y = outV _ hp X) (hfull : outb.view.set = Finset.univ)
    (g : Nat) (hg : g < 32) (hb : b < 4) (h0 : off 0 = base L + 4 * (4 * g + b)) (h1 : off 1 = 0)
    (hc : c2 ↔ g + 1 < 32) (h0' : off' 0 = base L + 4 * (4 * (g + 1) + b)) (h1' : off' 1 = 0)
    (kk : Unit → Prog (TpuEff nD τ sig (Elt F) Λ₀ (.scVector (cV L) (jV L))) α) (Q : α → sProp 𝕄) :
    iprop(((pmV).view.loc (thr d L) ↦{fullShare} P) ∗ InMid d L X q inb sI (4 * g + b) ∗ OutIdle d L outb sO ∗ Rest d L Y0 (4 * g + b))
      ⊢ iprop((iprop(((pmV).view.loc (thr d L) ↦{fullShare} P) ∗ InSt d L X q inb sI b (g + 1) ∗ OutSt d L Y outb sO b (g + 1) ∗ Rest d L Y0 (4 * g + (b + 1)))
          -∗ wp frame (wpE (defs₀ (F := F)) 𝒱₀ (thr d L) none) Set.univ (kk ⟨⟩) Q)
        -∗ wp frame (wpE (defs₀ (F := F)) 𝒱₀ (thr d L) none) Set.univ
          (tailP L inb outb sI sO off hoff ho hd ht c2 off' hoff' hs hi ht' kk) Q) := by
  unfold InMid OutIdle tailP
  iintro ⟨Hp, ⟨⟨%fi, %hfi, Hb⟩, Hx, Hs⟩, ⟨⟨%fo, Ho⟩, Hso⟩, HR⟩ Hk
  iapply (wp_gatherLoop d (cV L) (jV L) pmV inb outb P fi fo hp) $$ [Hp Hb Ho]
  · isplitl [Hp]; · iexact Hp
    isplitl [Hb]; · iexact Hb
    iexact Ho
  iintro %fo' %hfo' ⟨Hp, Hb, Ho⟩
  ihave HR2 := (rest_take d L Y0 (4 * g + b) (by omega)) $$ HR
  icases HR2 with ⟨Hc, HR⟩
  have hrows : IsRows (base L + 4 * (4 * g + b)) (outb.view.read (Elt F) fo') Y := by
    rw [hfo', hY]; exact isRows_permSlab hfi _ hp
  iapply (wp_startOut d L Y outb sO (4 * g + b) h0 h1 hfull Y0 fo' hrows) $$ [Hc Ho Hso]
  · isplitl [Hc]; · iexact Hc
    isplitl [Ho]; · iexact Ho
    iexact Hso
  iintro Hof
  by_cases hg' : g + 1 < 32
  · rw [dif_pos (hc.mpr hg')]
    iapply (wp_startIn d L X q inb sI (4 * (g + 1) + b) h0' h1') $$ [Hb Hx Hs]
    · unfold InIdle
      isplitl [Hb]; · iexists _; iexact Hb
      isplitl [Hx]; · iexact Hx
      iexact Hs
    iintro Hif
    iapply Hk
    unfold InSt OutSt
    rw [if_pos hg', if_pos (Nat.succ_pos g), Nat.add_sub_cancel]
    isplitl [Hp]; · iexact Hp
    isplitl [Hif]; · iexact Hif
    isplitl [Hof]; · iexact Hof
    iexact HR
  · rw [dif_neg (fun h => hg' (hc.mp h))]
    iapply Hk
    unfold InSt OutSt
    rw [if_neg hg', if_pos (Nat.succ_pos g), Nat.add_sub_cancel]
    isplitl [Hp]; · iexact Hp
    isplitl [Hb Hx Hs]
    · unfold InIdle
      isplitl [Hb]; · iexists _; iexact Hb
      isplitl [Hx]; · iexact Hx
      iexact Hs
    isplitl [Hof]; · iexact Hof
    iexact HR

end Slot

end Cert.Proof.Perm

end
-- ==== Proof.Trip.lean ====
/-
  A trip of the tile's main loop: its four slots one after the other.
-/
module

public import proofs.«01_k».proof.Proof.Ring

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The ring's buffers and semaphores. -/
abbrev inV0 : Memref sig .scVector .vmem S4x2048 .f32 := Memref.whole cc0_scratch2
abbrev inV1 : Memref sig .scVector .vmem S4x2048 .f32 := Memref.whole cc0_scratch3
abbrev inV2 : Memref sig .scVector .vmem S4x2048 .f32 := Memref.whole cc0_scratch4
abbrev inV3 : Memref sig .scVector .vmem S4x2048 .f32 := Memref.whole cc0_scratch5
abbrev outV0 : Memref sig .scVector .vmem S4x2048 .f32 := Memref.whole cc0_scratch6
abbrev outV1 : Memref sig .scVector .vmem S4x2048 .f32 := Memref.whole cc0_scratch7
abbrev outV2 : Memref sig .scVector .vmem S4x2048 .f32 := Memref.whole cc0_scratch8
abbrev outV3 : Memref sig .scVector .vmem S4x2048 .f32 := Memref.whole cc0_scratch9
abbrev sI0 : DmaSem sig := cc0_scratch10.sem
abbrev sI1 : DmaSem sig := cc0_scratch11.sem
abbrev sI2 : DmaSem sig := cc0_scratch12.sem
abbrev sI3 : DmaSem sig := cc0_scratch13.sem
abbrev sO0 : DmaSem sig := cc0_scratch14.sem
abbrev sO1 : DmaSem sig := cc0_scratch15.sem
abbrev sO2 : DmaSem sig := cc0_scratch16.sem
abbrev sO3 : DmaSem sig := cc0_scratch17.sem

/-- When a slot waits for its copy out: from the second trip on. When it starts its next copy in: but on the last. -/
theorem cond1_iff : ∀ g : Fin k0_t2_loop.trips, k0_cond1 g = 1#1 ↔ 0 < g.val := by decide +kernel
theorem cond2_iff : ∀ g : Fin k0_t2_loop.trips, k0_cond2 g = 1#1 ↔ g.val + 1 < 32 := by decide +kernel
theorem cond3_iff : ∀ g : Fin k0_t2_loop.trips, k0_cond3 g = 1#1 ↔ 0 < g.val := by decide +kernel
theorem cond4_iff : ∀ g : Fin k0_t2_loop.trips, k0_cond4 g = 1#1 ↔ g.val + 1 < 32 := by decide +kernel
theorem cond5_iff : ∀ g : Fin k0_t2_loop.trips, k0_cond5 g = 1#1 ↔ 0 < g.val := by decide +kernel
theorem cond6_iff : ∀ g : Fin k0_t2_loop.trips, k0_cond6 g = 1#1 ↔ g.val + 1 < 32 := by decide +kernel
theorem cond7_iff : ∀ g : Fin k0_t2_loop.trips, k0_cond7 g = 1#1 ↔ 0 < g.val := by decide +kernel
theorem cond8_iff : ∀ g : Fin k0_t2_loop.trips, k0_cond8 g = 1#1 ↔ g.val + 1 < 32 := by decide +kernel

theorem trips_lt (g : Fin k0_t2_loop.trips) : g.val < 32 := g.isLt

/-- Where a slot's chunk of a trip starts, and where its next trip's does. -/
theorem off4_row (g : Fin k0_t2_loop.trips) (b : Fin 4) : k0_off4 L g (BitVec.ofNat 32 b.val) 0 = base L + 4 * (4 * g.val + b.val) := by
  rw [k0_off4_eq]
  show 1024 * (L 1).val + 512 * (L 0).val + 16 * g.val + 4 * b.val = _
  unfold base; omega
theorem off4_col (g : Fin k0_t2_loop.trips) (b : Fin 4) : k0_off4 L g (BitVec.ofNat 32 b.val) 1 = 0 := by
  rw [k0_off4_eq]; rfl
theorem off11_row (g : Fin k0_t2_loop.trips) : k0_off11 L g 0 = base L + 4 * (4 * (g.val + 1) + 0) := by
  rw [k0_off11_eq]
  show 1024 * (L 1).val + 512 * (L 0).val + 16 * g.val + 16 = _
  unfold base; omega
theorem off11_col (g : Fin k0_t2_loop.trips) : k0_off11 L g 1 = 0 := by
  rw [k0_off11_eq]; rfl
theorem off18_row (g : Fin k0_t2_loop.trips) : k0_off18 L g 0 = base L + 4 * (4 * (g.val + 1) + 1) := by
  rw [k0_off18_eq]
  show 1024 * (L 1).val + 512 * (L 0).val + 16 * g.val + 20 = _
  unfold base; omega
theorem off18_col (g : Fin k0_t2_loop.trips) : k0_off18 L g 1 = 0 := by
  rw [k0_off18_eq]; rfl
theorem off25_row (g : Fin k0_t2_loop.trips) : k0_off25 L g 0 = base L + 4 * (4 * (g.val + 1) + 2) := by
  rw [k0_off25_eq]
  show 1024 * (L 1).val + 512 * (L 0).val + 16 * g.val + 24 = _
  unfold base; omega
theorem off25_col (g : Fin k0_t2_loop.trips) : k0_off25 L g 1 = 0 := by
  rw [k0_off25_eq]; rfl
theorem off32_row (g : Fin k0_t2_loop.trips) : k0_off32 L g 0 = base L + 4 * (4 * (g.val + 1) + 3) := by
  rw [k0_off32_eq]
  show 1024 * (L 1).val + 512 * (L 0).val + 16 * g.val + 28 = _
  unfold base; omega
theorem off32_col (g : Fin k0_t2_loop.trips) : k0_off32 L g 1 = 0 := by
  rw [k0_off32_eq]; rfl

variable (X Y Y0 : S16384x2048.Idx → F .f32) (q0 q1 q2 q3 : PosShare TreeShare)

/-- What holds before trip `g`: the permutation in its scratch, each slot's two sides, the rows of the result still to be
    written and the rows done. -/
def MainInv (P : Buf (Elt F) ((pmV).view.loc (thr d L))) (O : CellTallies nD τ sig (HIx 1)) (W : Waits sig (HIx 1)) (g : Nat) (_ : Unit) : sProp 𝕄 :=
  iprop(□ Transfers.MayWaits (thr d L) (default : HIx 1) O ∗ ((pmV).view.loc (thr d L) ↦{fullShare} P)
    ∗ InSt d L X q0 inV0 sI0 0 g ∗ OutSt d L Y outV0 sO0 0 g
    ∗ InSt d L X q1 inV1 sI1 1 g ∗ OutSt d L Y outV1 sO1 1 g
    ∗ InSt d L X q2 inV2 sI2 2 g ∗ OutSt d L Y outV2 sO2 2 g
    ∗ InSt d L X q3 inV3 sI3 3 g ∗ OutSt d L Y outV3 sO3 3 g
    ∗ Rest d L Y0 (4 * g + 0) ∗ Done d L Y (4 * g + 0 - 4) ∗ owesI d L O W)

/-- The main loop's body at the launch's memrefs. -/
abbrev mainBody (v2 : BitVec 32) : Fin k0_t2_loop.trips → Unit → Prog (TpuEff nD τ sig (Elt F) Λ₀ (.scVector (cV L) (jV L))) Unit :=
  k0_t2_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2

/-- The four inner loops have one text. -/
theorem body3_eq (v2 c0 c1 : BitVec 32) (g : Fin k0_t2_loop.trips) :
    k0_t3_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 c0 c1 g = gatherBody (cV L) (jV L) pmV inV0 outV0 := rfl
theorem body4_eq (v2 c0 c1 c2 : BitVec 32) (g : Fin k0_t2_loop.trips) :
    k0_t4_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 g c0 c1 c2 = gatherBody (cV L) (jV L) pmV inV1 outV1 := rfl
theorem body5_eq (v2 c0 c1 c2 : BitVec 32) (g : Fin k0_t2_loop.trips) :
    k0_t5_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 g c0 c1 c2 = gatherBody (cV L) (jV L) pmV inV2 outV2 := rfl
theorem body6_eq :
    k0_t6_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 = gatherBody (cV L) (jV L) pmV inV3 outV3 := rfl

/-- The parts of the trip's text as slots' halves. -/
theorem part1_eq (v2 c0 c1 : BitVec 32) (g : Fin k0_t2_loop.trips) :
    k0_part1 (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 c0 c1 g
      = headP L inV0 outV0 sI0 sO0 (slab xV (k0_off4 L g 0#32) (k0_off4_inb L g 0)) (View.wordExact_bits rfl) (Memref.isWhole_whole _).wordExact
        (k0_cond1 g = 1#1) (k0_off5 L g) (k0_off5_inb L g) (Memref.isWhole_whole _).wordExact (fun _ => View.wordExact_bits rfl) fun _ =>
        tailP L inV0 outV0 sI0 sO0 (k0_off4 L g 0#32) (k0_off4_inb L g 0) (Memref.isWhole_whole _).wordExact (View.wordExact_bits rfl) ⟨Or.inl rfl, trivial⟩
        (k0_cond2 g = 1#1) (k0_off11 L g) (k0_off11_inb L g) (fun _ => View.wordExact_bits rfl) (Memref.isWhole_whole _).wordExact ⟨Or.inl rfl, trivial⟩ fun _ =>
        headP L inV1 outV1 sI1 sO1 (slab xV (k0_off4 L g 1#32) (k0_off4_inb L g 1)) (View.wordExact_bits rfl) (Memref.isWhole_whole _).wordExact
        (k0_cond3 g = 1#1) (k0_off12 L g) (k0_off12_inb L g) (Memref.isWhole_whole _).wordExact (fun _ => View.wordExact_bits rfl) fun _ => pure ⟨Scf.iv c0 c1 g, Scalar.addi (Scalar.muli 4#32 (Scf.iv c0 c1 g)) 1#32, 0#32⟩ := by
  rw [k0_part1_eq_skeleton]; unfold k0_part1_skel
  rw [body3_eq]

/-- The second part's. -/
theorem part2_eq (v2 c0 c1 c2 : BitVec 32) (g : Fin k0_t2_loop.trips) :
    k0_part2 (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 g c0 c1 c2
      = tailP L inV1 outV1 sI1 sO1 (k0_off4 L g 1#32) (k0_off4_inb L g 1) (Memref.isWhole_whole _).wordExact (View.wordExact_bits rfl) ⟨Or.inl rfl, trivial⟩
        (k0_cond4 g = 1#1) (k0_off18 L g) (k0_off18_inb L g) (fun _ => View.wordExact_bits rfl) (Memref.isWhole_whole _).wordExact ⟨Or.inl rfl, trivial⟩ fun _ =>
        headP L inV2 outV2 sI2 sO2 (slab xV (k0_off4 L g 2#32) (k0_off4_inb L g 2)) (View.wordExact_bits rfl) (Memref.isWhole_whole _).wordExact
        (k0_cond5 g = 1#1) (k0_off19 L g) (k0_off19_inb L g) (Memref.isWhole_whole _).wordExact (fun _ => View.wordExact_bits rfl) fun _ =>
        tailP L inV2 outV2 sI2 sO2 (k0_off4 L g 2#32) (k0_off4_inb L g 2) (Memref.isWhole_whole _).wordExact (View.wordExact_bits rfl) ⟨Or.inl rfl, trivial⟩
        (k0_cond6 g = 1#1) (k0_off25 L g) (k0_off25_inb L g) (fun _ => View.wordExact_bits rfl) (Memref.isWhole_whole _).wordExact ⟨Or.inl rfl, trivial⟩ fun _ => pure ⟨Scalar.addi (Scalar.muli 4#32 c0) 3#32, 4#32⟩ := by
  rw [k0_part2_eq_skeleton]; unfold k0_part2_skel
  rw [body4_eq, body5_eq]

/-- The trip as its two parts and the last slot. -/
theorem body2_eq (v2 : BitVec 32) (g : Fin k0_t2_loop.trips) (acc : Unit) :
    k0_t2_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 g acc
      = (k0_part1 (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 0#32 1#32 g >>= fun r =>
          k0_part2 (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 v2 g r.1 r.2.1 r.2.2 >>= fun _ =>
        headP L inV3 outV3 sI3 sO3 (slab xV (k0_off4 L g 3#32) (k0_off4_inb L g 3)) (View.wordExact_bits rfl) (Memref.isWhole_whole _).wordExact
        (k0_cond7 g = 1#1) (k0_off26 L g) (k0_off26_inb L g) (Memref.isWhole_whole _).wordExact (fun _ => View.wordExact_bits rfl) fun _ =>
        tailP L inV3 outV3 sI3 sO3 (k0_off4 L g 3#32) (k0_off4_inb L g 3) (Memref.isWhole_whole _).wordExact (View.wordExact_bits rfl) ⟨Or.inl rfl, trivial⟩
        (k0_cond8 g = 1#1) (k0_off32 L g) (k0_off32_inb L g) (fun _ => View.wordExact_bits rfl) (Memref.isWhole_whole _).wordExact ⟨Or.inl rfl, trivial⟩ fun _ => pure ⟨⟩) := by
  unfold k0_t2_body
  rw [body6_eq]

set_option maxHeartbeats 4000000 in
/-- One trip. -/
theorem wp_mainTrip (P : Buf (Elt F) ((pmV).view.loc (thr d L))) (hp : InCols ((pmV).view.read (Elt F) P)) (hY : Y = outV _ hp X)
    (O : CellTallies nD τ sig (HIx 1)) (W : Waits sig (HIx 1)) (v2 : BitVec 32) (g : Fin k0_t2_loop.trips) (acc : Unit) :
    MainInv d L X Y Y0 q0 q1 q2 q3 P O W g.val acc
      ⊢ wp frame (wpE (defs₀ (F := F)) 𝒱₀ (thr d L) none) Set.univ (mainBody L v2 g acc) (MainInv d L X Y Y0 q0 q1 q2 q3 P O W (g.val + 1)) := by
  unfold MainInv mainBody
  rw [body2_eq, wp_bind, part1_eq]
  iintro ⟨#Hmw, Hp, Hi0, Ho0, Hi1, Ho1, Hi2, Ho2, Hi3, Ho3, HR, HD, HO⟩
  iapply (wp_head d L X Y q0 inV0 outV0 sI0 sO0 0 (hoff := k0_off5_inb L g) (c1 := k0_cond1 g = 1#1) g.val (trips_lt g) (by omega) (cond1_iff g) O W) $$ [Hi0 Ho0 HD HO]
  · isplitl [Hi0]; · iexact Hi0
    isplitl [Ho0]; · iexact Ho0
    isplitl [HD]; · iexact HD
    isplitl [HO]; · iexact HO
    iexact Hmw
  iintro ⟨Hi0, Ho0, HD, HO⟩
  iapply (wp_tail d L X Y Y0 q0 inV0 outV0 sI0 sO0 0 (off := k0_off4 L g 0#32) (hoff := k0_off4_inb L g 0) (hoff' := k0_off11_inb L g) (c2 := k0_cond2 g = 1#1) P hp hY (View.set_whole _)
    g.val (trips_lt g) (by omega) (off4_row L g 0) (off4_col L g 0) (cond2_iff g) (off11_row L g) (off11_col L g)) $$ [Hp Hi0 Ho0 HR]
  · isplitl [Hp]; · iexact Hp
    isplitl [Hi0]; · iexact Hi0
    isplitl [Ho0]; · iexact Ho0
    iexact HR
  iintro ⟨Hp, Hi0, Ho0, HR⟩
  iapply (wp_head d L X Y q1 inV1 outV1 sI1 sO1 1 (hoff := k0_off12_inb L g) (c1 := k0_cond3 g = 1#1) g.val (trips_lt g) (by omega) (cond3_iff g) O W) $$ [Hi1 Ho1 HD HO]
  · isplitl [Hi1]; · iexact Hi1
    isplitl [Ho1]; · iexact Ho1
    isplitl [HD]; · iexact HD
    isplitl [HO]; · iexact HO
    iexact Hmw
  iintro ⟨Hi1, Ho1, HD, HO⟩
  rw [wp_pure]; imodintro
  rw [wp_bind, part2_eq]
  iapply (wp_tail d L X Y Y0 q1 inV1 outV1 sI1 sO1 1 (off := k0_off4 L g 1#32) (hoff := k0_off4_inb L g 1) (hoff' := k0_off18_inb L g) (c2 := k0_cond4 g = 1#1) P hp hY (View.set_whole _)
    g.val (trips_lt g) (by omega) (off4_row L g 1) (off4_col L g 1) (cond4_iff g) (off18_row L g) (off18_col L g)) $$ [Hp Hi1 Ho1 HR]
  · isplitl [Hp]; · iexact Hp
    isplitl [Hi1]; · iexact Hi1
    isplitl [Ho1]; · iexact Ho1
    iexact HR
  iintro ⟨Hp, Hi1, Ho1, HR⟩
  iapply (wp_head d L X Y q2 inV2 outV2 sI2 sO2 2 (hoff := k0_off19_inb L g) (c1 := k0_cond5 g = 1#1) g.val (trips_lt g) (by omega) (cond5_iff g) O W) $$ [Hi2 Ho2 HD HO]
  · isplitl [Hi2]; · iexact Hi2
    isplitl [Ho2]; · iexact Ho2
    isplitl [HD]; · iexact HD
    isplitl [HO]; · iexact HO
    iexact Hmw
  iintro ⟨Hi2, Ho2, HD, HO⟩
  iapply (wp_tail d L X Y Y0 q2 inV2 outV2 sI2 sO2 2 (off := k0_off4 L g 2#32) (hoff := k0_off4_inb L g 2) (hoff' := k0_off25_inb L g) (c2 := k0_cond6 g = 1#1) P hp hY (View.set_whole _)
    g.val (trips_lt g) (by omega) (off4_row L g 2) (off4_col L g 2) (cond6_iff g) (off25_row L g) (off25_col L g)) $$ [Hp Hi2 Ho2 HR]
  · isplitl [Hp]; · iexact Hp
    isplitl [Hi2]; · iexact Hi2
    isplitl [Ho2]; · iexact Ho2
    iexact HR
  iintro ⟨Hp, Hi2, Ho2, HR⟩
  rw [wp_pure]; imodintro
  iapply (wp_head d L X Y q3 inV3 outV3 sI3 sO3 3 (hoff := k0_off26_inb L g) (c1 := k0_cond7 g = 1#1) g.val (trips_lt g) (by omega) (cond7_iff g) O W) $$ [Hi3 Ho3 HD HO]
  · isplitl [Hi3]; · iexact Hi3
    isplitl [Ho3]; · iexact Ho3
    isplitl [HD]; · iexact HD
    isplitl [HO]; · iexact HO
    iexact Hmw
  iintro ⟨Hi3, Ho3, HD, HO⟩
  iapply (wp_tail d L X Y Y0 q3 inV3 outV3 sI3 sO3 3 (off := k0_off4 L g 3#32) (hoff := k0_off4_inb L g 3) (hoff' := k0_off32_inb L g) (c2 := k0_cond8 g = 1#1) P hp hY (View.set_whole _)
    g.val (trips_lt g) (by omega) (off4_row L g 3) (off4_col L g 3) (cond8_iff g) (off32_row L g) (off32_col L g)) $$ [Hp Hi3 Ho3 HR]
  · isplitl [Hp]; · iexact Hp
    isplitl [Hi3]; · iexact Hi3
    isplitl [Ho3]; · iexact Ho3
    iexact HR
  iintro ⟨Hp, Hi3, Ho3, HR⟩
  rw [wp_pure]; imodintro
  isplitr; · iexact Hmw
  isplitl [Hp]; · iexact Hp
  isplitl [Hi0]; · iexact Hi0
  isplitl [Ho0]; · iexact Ho0
  isplitl [Hi1]; · iexact Hi1
  isplitl [Ho1]; · iexact Ho1
  isplitl [Hi2]; · iexact Hi2
  isplitl [Ho2]; · iexact Ho2
  isplitl [Hi3]; · iexact Hi3
  isplitl [Ho3]; · iexact Ho3
  isplitl [HR]; · iexact HR
  isplitl [HD]; · iexact HD
  iexact HO

end Cert.Proof.Perm

end
-- ==== Proof.Head.lean ====
/-
  A tile's work ahead of its main loop: the permutation fetched into its scratch, and its block of the second result, which
  is zeros — stored into a scratch row sixteen at a time and copied out whole.
-/
module

public import proofs.«01_k».proof.Proof.Slot

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The semaphores of the two copies that a tile starts and waits for on the spot. -/
abbrev sA : DmaSem sig := cc0_scoped0.sem
abbrev sB : DmaSem sig := cc0_scoped1.sem

/-- One more wait of the tile's own keeps what it owes as it was. -/
theorem owes_insert (O : CellTallies nD τ sig (HIx 1)) (W W' : Waits sig (HIx 1)) (hW' : ∀ p ∈ W', p ∈ W ∨ p.2 = none) (s : SemLoc sig) :
    (owes (thr d L) O (insert (s, (default : HIx 1)) W') : sProp 𝕄) ⊢ iprop(∃ W', ⌜∀ p ∈ W', p ∈ W ∨ p.2 = none⌝ ∗ owes (thr d L) O W') := by
  iintro HO
  iexists _; isplitr
  swap; · iexact HO
  ipureintro; intro p hp
  rcases Finset.mem_insert.mp hp with hp | hp; · exact .inr (hp ▸ rfl)
  exact hW' p hp

/-- The permutation is fetched and the fetch waited for: the scratch then holds it. -/
theorem wp_fetch {α : Type} (q : PosShare TreeShare) (P : S2048.Idx → BitVec 32) (f : Buf (Elt F) ((pmV).view.loc (thr d L)))
    (O : CellTallies nD τ sig (HIx 1)) (W : Waits sig (HIx 1))
    {hsrc hsrc' : (pV).view.WordExact} {hdst hdst' : (pmV).view.WordExact}
    {hsem : DmaTarget.Typed (nD := nD) (p := (thr d L).2) Space.hbm (SemLoc.dma sA) (.here pmV)}
    (k : PUnit → Prog (TpuEff nD τ sig (Elt F) Λ₀ (thr d L).2) α) (Q : α → sProp 𝕄) :
    iprop((pLoc d ↦{q} (P : Buf (Elt F) (pLoc d))) ∗ ((pmV).view.loc (thr d L) ↦{fullShare} f) ∗ semVal (thr d L, SemLoc.dma sA) 0 ∗ owesI d L O W
        ∗ Transfers.MayWaits (thr d L) (default : HIx 1) O)
      ⊢ iprop((iprop((pLoc d ↦{q} (P : Buf (Elt F) (pLoc d))) ∗ ((pmV).view.loc (thr d L) ↦{fullShare} (P : Buf (Elt F) ((pmV).view.loc (thr d L))))
            ∗ semVal (thr d L, SemLoc.dma sA) 0 ∗ owesI d L O W)
          -∗ wp frame (wpE (defs₀ (F := F)) 𝒱₀ (thr d L) none) Set.univ (k ⟨⟩) Q)
        -∗ wp frame (wpE (defs₀ (F := F)) 𝒱₀ (thr d L) none) Set.univ
          (.op (.enqueueDma pV (.here pmV) (.dma sA) hsrc hdst hsem) fun _ => .op (.waitDma2 sA pV pmV hsrc' hdst') k) Q) := by
  iintro ⟨Hx, Hb, Hs, HO, Hmw⟩ Hk
  have hset : (pV).view.set = Finset.univ := View.set_whole _
  have hw : (pmV).view.write (Elt F) f ((pV).view.read (Elt F) P) Finset.univ = P := View.write_whole_univ _ _ _
  iapply (Transfers.wp_dmaLocal countersEmb 𝒱₀ (thr d L) none (src := pV) (dst := pmV) (q := q) (fs := P) (Sd := Finset.univ) (fd := f)
    (default : HIx 1) (pmV).view.dmaCredit rfl ((pmV).view.dmaCredit_pos (by decide)) (Finset.subset_univ _)) $$ [Hx Hb Hs]
  · isplitl [Hx]
    · rw [hset]; iexact Hx
    isplitl [Hb]; · iexact Hb
    iexact Hs
  iintro Hfl
  unfold owesI
  icases HO with ⟨%W', %hW', HO⟩
  iapply (Transfers.wp_waitLocalO countersEmb 𝒱₀ (thr d L) none (default : HIx 1) (rfl : (pmV).view.dmaCredit = _)) $$ [Hfl HO Hmw]
  · isplitl [Hfl]; · iexact Hfl
    isplitl [HO]; · iexact HO
    iapply (Transfers.MayWaits.elim (SemLoc.dma sA)) $$ Hmw
  iintro ⟨⟨Hb, Hx⟩, Hs, HO⟩
  iapply Hk
  isplitl [Hx]
  · rw [hset]; iexact Hx
  isplitl [Hb]
  · iapply (Entails.of_eq (congrArg (fun g : Buf (Elt F) ((pmV).view.loc (thr d L)) => ((pmV).view.loc (thr d L) ↦{fullShare} g : sProp 𝕄)) hw))
    iexact Hb
  isplitl [Hs]; · iexact Hs
  iapply (owes_insert d L O W W' hW' (SemLoc.dma sA)) $$ HO

/-- The value of the second result. -/
abbrev zval : F .f32 := Scalar.ofBits .f32 0x00000000#32

/-- A trip's store of sixteen zeros: the scratch row is zeros sixteen further. -/
theorem zero_read (f : Buf (Elt F) ((zV).view.loc (thr d L))) (k : Fin k0_t1_loop.trips)
    (hf : ∀ y : S512.Idx, (y 0).val < 16 * k.val → (zV).view.read (Elt F) f y = zval (F := F)) :
    ∀ y : S512.Idx, (y 0).val < 16 * (k.val + 1) →
      (zV).view.read (Elt F) ((zV).view.writes (Elt F) f [⟨Rect.unit (s := S512) (k0_off2 k) S16.size (k0_off2_inb k), k0_pay1 (F := F)⟩]) y = zval (F := F) := by
  intro y hy
  have he := k0_off2_eq k
  by_cases hm : y ∈ (Rect.unit (s := S512) (k0_off2 k) S16.size (k0_off2_inb k)).set
  · exact View.read_writes_apply_of_pieces (zV).view f (fun _ => zval (F := F)) _
      (fun p hp x => by rw [List.mem_singleton] at hp; subst hp; rfl) y ⟨_, List.mem_singleton.mpr rfl, hm⟩
  · rw [View.read_writes_apply_of_forall_not_mem (zV).view f y _ (fun p hp => by rw [List.mem_singleton] at hp; subst hp; exact hm)]
    refine hf y ?_
    by_contra hlt
    refine hm ((Rect.mem_set_unit).mpr fun a => ?_)
    match a with
    | 0 =>
      have e0 : k0_off2 k 0 = 16 * k.val := by rw [he]; rfl
      rw [e0]
      exact ⟨by omega, by show (y 0).val < 16 * k.val + 16; omega⟩

/-- The scratch row's first sixteens are zeros. -/
def zInv (k : Nat) (_ : PUnit) : sProp 𝕄 :=
  iprop(∃ f, ⌜∀ y : S512.Idx, (y 0).val < 16 * k → (zV).view.read (Elt F) f y = zval (F := F)⌝ ∗ ((zV).view.loc (thr d L) ↦{fullShare} f))

/-- The zero loop's body at the scratch row. -/
def zBody : Fin k0_t1_loop.trips → Unit → Prog (TpuEff nD τ sig (Elt F) Λ₀ (.scVector (cV L) (jV L))) Unit := fun k _ =>
  .op (.load zV (Rect.unit (s := S512) (k0_off2 k) S16.size (k0_off2_inb k)).toLoadRect (View.loadsAt_vmem h_S16)) fun _ =>
  .op (.store zV (Rect.unit (s := S512) (k0_off2 k) S16.size (k0_off2_inb k)) (k0_pay1 (F := F)) Finset.univ (View.stores_vmem_bits_univ h_S16 rfl) (.inl rfl)) fun _ =>
  .ret ⟨⟩

theorem wp_zTrip (k : Fin k0_t1_loop.trips) (acc : Unit) :
    zInv (F := F) d L k.val acc ⊢ wp frame (wpE (defs₀ (F := F)) 𝒱₀ (thr d L) none) Set.univ (zBody L k acc) (zInv (F := F) d L (k.val + 1)) := by
  unfold zInv
  iintro ⟨%f, %hf, Hz⟩
  have hr := zero_read d L f k hf
  unfold zBody
  generalize k0_pay1 (F := F) = w at hr ⊢
  iapply (wp_load 𝒱₀ (thr d L) none Set.univ (m := zV) (S := Finset.univ) (Finset.subset_univ _)) $$ Hz; iintro Hz
  iapply (wp_store_writes₀ 𝒱₀ (thr d L) none Set.univ (m := zV)
    (r := Rect.unit (s := S512) (k0_off2 k) S16.size (k0_off2_inb k)) (w := w) (S := Finset.univ) (f := f) (Finset.subset_univ _)) $$ Hz; iintro Hz
  rw [wp_ret]; imodintro
  iexists _
  isplitr; swap; · iexact Hz
  ipureintro
  exact hr

/-- The rows of the second result that the tile at `L` writes. -/
def lrows (lo hi : Nat) : Finset S16384.Idx := Finset.univ.filter fun i => lo ≤ (i 0).val ∧ (i 0).val < hi

theorem mem_lrows {lo hi : Nat} {i : S16384.Idx} : i ∈ lrows lo hi ↔ lo ≤ (i 0).val ∧ (i 0).val < hi := by
  simp [lrows]

abbrev lBlock : Memref sig .scVector .hbm S512 .f32 := (lV).slice (Rect.unit (s := S16384) (k0_off3 L) S512.size (k0_off3_inb L)) (fun _ => rfl)

theorem set_lBlock : (lBlock L).view.set = lrows (base L) (base L + 512) := by
  show ((View.whole (main_v0_1_scv : Ref sig .scVector)).slice _).set = _
  rw [View.set_slice]
  refine Finset.map_refl.trans (Finset.ext fun i => ?_)
  rw [Rect.mem_set_unit, mem_lrows]
  have e0 : k0_off3 L 0 = base L := by rw [k0_off3_eq]; rfl
  constructor
  · intro h
    have h' := h 0
    rw [e0] at h'
    exact h'
  · intro h a
    match a with
    | 0 => rw [e0]; exact h

/-- The block written with zeros is zeros on its rows. -/
theorem write_lBlock (fd : S16384.Idx → F .f32) (w : S512.Idx → F .f32) (hw : ∀ y, w y = zval (F := F)) :
    ∀ i ∈ lrows (base L) (base L + 512), (lBlock L).view.write (Elt F) fd w Finset.univ i = zval (F := F) := by
  intro i hi
  rw [← set_lBlock] at hi
  obtain ⟨y, -, rfl⟩ := Finset.mem_map.mp hi
  have hr := congrFun (View.read_write_univ (v := (lBlock L).view) (Val := Elt F) fd w) y
  rw [View.read_apply, hw] at hr
  exact (cast_eq _ _).symm.trans hr

/-- The scratch row of zeros goes out to the tile's block and the copy is waited for. -/
theorem wp_zeros {α : Type} (f : Buf (Elt F) ((zV).view.loc (thr d L))) (fd : S16384.Idx → F .f32)
    (hf : ∀ y, (zV).view.read (Elt F) f y = zval (F := F))
    (O : CellTallies nD τ sig (HIx 1)) (W : Waits sig (HIx 1))
    {hsrc hsrc' : (zV).view.WordExact} {hdst hdst' : (lBlock L).view.WordExact}
    {hsem : DmaTarget.Typed (nD := nD) (p := (thr d L).2) Space.vmem (SemLoc.dma sB) (.here (lBlock L))}
    (k : PUnit → Prog (TpuEff nD τ sig (Elt F) Λ₀ (thr d L).2) α) (Q : α → sProp 𝕄) :
    iprop((lLoc d ↦[lrows (base L) (base L + 512)]{fullShare} (fd : Buf (Elt F) (lLoc d))) ∗ ((zV).view.loc (thr d L) ↦{fullShare} f)
        ∗ semVal (thr d L, SemLoc.dma sB) 0 ∗ owesI d L O W ∗ Transfers.MayWaits (thr d L) (default : HIx 1) O)
      ⊢ iprop((iprop((lLoc d ↦[lrows (base L) (base L + 512)]{fullShare} ((fun _ => zval (F := F)) : Buf (Elt F) (lLoc d)))
            ∗ ((zV).view.loc (thr d L) ↦{fullShare} f) ∗ semVal (thr d L, SemLoc.dma sB) 0 ∗ owesI d L O W)
          -∗ wp frame (wpE (defs₀ (F := F)) 𝒱₀ (thr d L) none) Set.univ (k ⟨⟩) Q)
        -∗ wp frame (wpE (defs₀ (F := F)) 𝒱₀ (thr d L) none) Set.univ
          (.op (.enqueueDma zV (.here (lBlock L)) (.dma sB) hsrc hdst hsem) fun _ => .op (.waitDma2 sB zV (lBlock L) hsrc' hdst') k) Q) := by
  iintro ⟨Hl, Hb, Hs, HO, Hmw⟩ Hk
  have hset : (zV).view.set = Finset.univ := View.set_whole _
  have hl := set_lBlock L
  iapply (Transfers.wp_dmaLocal countersEmb 𝒱₀ (thr d L) none (src := zV) (dst := lBlock L) (q := fullShare) (fs := f) (Sd := lrows (base L) (base L + 512)) (fd := fd)
    (default : HIx 1) (lBlock L).view.dmaCredit rfl ((lBlock L).view.dmaCredit_pos (by decide)) (by rw [hl])) $$ [Hl Hb Hs]
  · isplitl [Hb]
    · rw [hset]; iexact Hb
    isplitl [Hl]; · iexact Hl
    iexact Hs
  iintro Hfl
  unfold owesI
  icases HO with ⟨%W', %hW', HO⟩
  iapply (Transfers.wp_waitLocalO countersEmb 𝒱₀ (thr d L) none (default : HIx 1) (rfl : (lBlock L).view.dmaCredit = _)) $$ [Hfl HO Hmw]
  · isplitl [Hfl]; · iexact Hfl
    isplitl [HO]; · iexact HO
    iapply (Transfers.MayWaits.elim (SemLoc.dma sB)) $$ Hmw
  iintro ⟨⟨Hl, Hb⟩, Hs, HO⟩
  iapply Hk
  isplitl [Hl]
  · iapply (Entails.of_eq (pointsTo_congr (ℓ := lLoc d) (q := fullShare) (I := lrows (base L) (base L + 512)) (write_lBlock L fd _ hf)))
    iexact Hl
  isplitl [Hb]
  · rw [hset]; iexact Hb
  isplitl [Hs]; · iexact Hs
  iapply (owes_insert d L O W W' hW' (SemLoc.dma sB)) $$ HO

end Cert.Proof.Perm

end
-- ==== Proof.Tile.lean ====
/-
  A tile's whole work: what it is handed, what it hands back.
-/
module

public import proofs.«01_k».proof.Proof.Trip
public import proofs.«01_k».proof.Proof.Head

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- Where the first four chunks start. -/
theorem off1_row : ∀ (L : grid0.Coords) (b : Fin 4), k0_off1 L (BitVec.ofNat 32 (4 * b.val)) 0 = 1024 * (L 1).val + 512 * (L 0).val + 4 * b.val := by decide +kernel
theorem off1_col : ∀ (L : grid0.Coords) (b : Fin 4), k0_off1 L (BitVec.ofNat 32 (4 * b.val)) 1 = 0 := by decide +kernel
theorem off1_base (b : Fin 4) : k0_off1 L (BitVec.ofNat 32 (4 * b.val)) 0 = base L + 4 * b.val := off1_row L b

/-- The zero loop's body, and the main loop's, at the launch's memrefs. -/
theorem body1_eq :
    k0_t1_body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 = zBody L := rfl

/-- What the program calls the tile's first row. -/
abbrev row0 : BitVec 32 := Scalar.muli (Scalar.addi (Scalar.muli (BitVec.ofNat 32 (L 1).val) 2#32) (BitVec.ofNat 32 (L 0).val)) 512#32

/-- The kernel's text up to the end of its main loop. -/
theorem part3_eq :
    k0_part3 (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1
      = .op (.enqueueDma pV (.here pmV) (.dma sA) (Memref.isWhole_whole _).wordExact (Memref.isWhole_whole _).wordExact ⟨Or.inl rfl, trivial⟩) fun _ =>
        .op (.waitDma2 sA pV pmV (Memref.isWhole_whole _).wordExact (Memref.isWhole_whole _).wordExact) fun _ =>
        .op (.enqueueDma (slab xV (k0_off1 L 0#32) (k0_off1_inb L 0)) (.here inV0) (.dma sI0) (View.wordExact_bits rfl) (Memref.isWhole_whole _).wordExact ⟨Or.inl rfl, trivial⟩) fun _ =>
        .op (.enqueueDma (slab xV (k0_off1 L 4#32) (k0_off1_inb L 1)) (.here inV1) (.dma sI1) (View.wordExact_bits rfl) (Memref.isWhole_whole _).wordExact ⟨Or.inl rfl, trivial⟩) fun _ =>
        .op (.enqueueDma (slab xV (k0_off1 L 8#32) (k0_off1_inb L 2)) (.here inV2) (.dma sI2) (View.wordExact_bits rfl) (Memref.isWhole_whole _).wordExact ⟨Or.inl rfl, trivial⟩) fun _ =>
        .op (.enqueueDma (slab xV (k0_off1 L 12#32) (k0_off1_inb L 3)) (.here inV3) (.dma sI3) (View.wordExact_bits rfl) (Memref.isWhole_whole _).wordExact ⟨Or.inl rfl, trivial⟩) fun _ =>
        Scf.Loop.for k0_t1_loop k0_t1_ok ⟨⟩ (zBody L) >>= fun _ =>
        .op (.enqueueDma zV (.here (lBlock L)) (.dma sB) (Memref.isWhole_whole _).wordExact (View.wordExact_bits rfl) ⟨Or.inl rfl, trivial⟩) fun _ =>
        .op (.waitDma2 sB zV (lBlock L) (Memref.isWhole_whole _).wordExact (View.wordExact_bits rfl)) fun _ =>
        Scf.Loop.for k0_t2_loop k0_t2_ok ⟨⟩ (mainBody L (row0 L)) >>= fun _ => pure (row0 L) := by
  rw [k0_part3_eq_skeleton]; unfold k0_part3_skel
  rw [body1_eq]
  rfl

/-- The kernel's text: that, and the last four waits. -/
theorem body_eq :
    cc0__body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1
      = (k0_part3 (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1 >>= fun _ =>
        .op (.waitDma2 sO0 outV0 (slab oV (k0_off1 L 496#32) (k0_off1_inb L 4)) (Memref.isWhole_whole _).wordExact (View.wordExact_bits rfl)) fun _ =>
        .op (.waitDma2 sO1 outV1 (slab oV (k0_off1 L 500#32) (k0_off1_inb L 5)) (Memref.isWhole_whole _).wordExact (View.wordExact_bits rfl)) fun _ =>
        .op (.waitDma2 sO2 outV2 (slab oV (k0_off1 L 504#32) (k0_off1_inb L 6)) (Memref.isWhole_whole _).wordExact (View.wordExact_bits rfl)) fun _ =>
        .op (.waitDma2 sO3 outV3 (slab oV (k0_off1 L 508#32) (k0_off1_inb L 7)) (Memref.isWhole_whole _).wordExact (View.wordExact_bits rfl)) fun _ =>
        .ret ⟨⟩) := by
  rw [cc0__body_eq_skeleton]; unfold cc0__body_skel
  rfl

/-- A tile's scratch buffers, at any contents. -/
def Bufs : sProp 𝕄 :=
  iprop((∃ f, (pmV).view.loc (thr d L) ↦{fullShare} f) ∗ (∃ f, (zV).view.loc (thr d L) ↦{fullShare} f)
    ∗ (∃ f, (inV0).view.loc (thr d L) ↦{fullShare} f) ∗ (∃ f, (inV1).view.loc (thr d L) ↦{fullShare} f)
    ∗ (∃ f, (inV2).view.loc (thr d L) ↦{fullShare} f) ∗ (∃ f, (inV3).view.loc (thr d L) ↦{fullShare} f)
    ∗ (∃ f, (outV0).view.loc (thr d L) ↦{fullShare} f) ∗ (∃ f, (outV1).view.loc (thr d L) ↦{fullShare} f)
    ∗ (∃ f, (outV2).view.loc (thr d L) ↦{fullShare} f) ∗ (∃ f, (outV3).view.loc (thr d L) ↦{fullShare} f))

/-- Its semaphores, at zero. -/
def Sems : sProp 𝕄 :=
  iprop(semVal (thr d L, SemLoc.dma sA) 0 ∗ semVal (thr d L, SemLoc.dma sB) 0
    ∗ semVal (thr d L, SemLoc.dma sI0) 0 ∗ semVal (thr d L, SemLoc.dma sI1) 0 ∗ semVal (thr d L, SemLoc.dma sI2) 0 ∗ semVal (thr d L, SemLoc.dma sI3) 0
    ∗ semVal (thr d L, SemLoc.dma sO0) 0 ∗ semVal (thr d L, SemLoc.dma sO1) 0 ∗ semVal (thr d L, SemLoc.dma sO2) 0 ∗ semVal (thr d L, SemLoc.dma sO3) 0)

/-- The arrays as a tile holds them: a share of `x`, one of the permutation, its rows of the result and of the zeros. -/
def Arrays (qx qp : PosShare TreeShare) (X : S16384x2048.Idx → F .f32) (P : S2048.Idx → BitVec 32) (Y : S16384x2048.Idx → F .f32) (Z : S16384.Idx → F .f32) : sProp 𝕄 :=
  iprop((xLoc d ↦{qx} (X : Buf (Elt F) (xLoc d))) ∗ (pLoc d ↦{qp} (P : Buf (Elt F) (pLoc d)))
    ∗ (oLoc d ↦[rows (base L) (base L + 512)]{fullShare} (Y : Buf (Elt F) (oLoc d)))
    ∗ (lLoc d ↦[lrows (base L) (base L + 512)]{fullShare} (Z : Buf (Elt F) (lLoc d))))

theorem trips1 : Scf.trips k0_t1_loop.lb k0_t1_loop.ub k0_t1_loop.st = 32 := by decide
theorem trips2 : Scf.trips k0_t2_loop.lb k0_t2_loop.ub k0_t2_loop.st = 32 := by decide

variable (X Y Y0 : S16384x2048.Idx → F .f32) (q : PosShare TreeShare) (inb outb : Memref sig .scVector .vmem S4x2048 .f32) (sI sO : DmaSem sig) (b : Nat)

theorem inSt_zero : InSt d L X q inb sI b 0 = InFly d L X q inb sI b := by
  unfold InSt; rw [if_pos (by decide), show 4 * 0 + b = b by omega]
theorem inSt_last : InSt d L X q inb sI b 32 = InIdle d L X q inb sI := by
  unfold InSt; rw [if_neg (by decide)]
theorem outSt_zero : OutSt d L Y outb sO b 0 = OutIdle d L outb sO := by
  unfold OutSt; rw [if_neg (by decide)]
theorem outSt_last : OutSt d L Y outb sO b 32 = OutFly d L Y outb sO (124 + b) := by
  unfold OutSt; rw [if_pos (by decide)]
theorem rest_zero : Rest d L Y0 (4 * 0 + 0) = (oLoc d ↦[rows (base L) (base L + 512)]{fullShare} Y0 : sProp 𝕄) := rfl
theorem done_zero : (emp : sProp 𝕄) ⊢ Done d L Y (4 * 0 + 0 - 4) := by
  unfold Done
  rw [show base L + 4 * (4 * 0 + 0 - 4) = base L from rfl, rows_empty]
  exact Entails.of_eq pointsTo_empty.symm
theorem done_last : Done d L Y 128 = (oLoc d ↦[rows (base L) (base L + 512)]{fullShare} Y : sProp 𝕄) := rfl

set_option maxHeartbeats 4000000 in
/-- The tile's work. -/
theorem wp_tile (q0 q1 q2 q3 qp : PosShare TreeShare) (P : S2048.Idx → BitVec 32) (hp : InCols P) (hY : Y = outV P hp X) (Z0 : S16384.Idx → F .f32)
    (O : CellTallies nD τ sig (HIx 1)) (W : Waits sig (HIx 1)) :
    iprop(□ Transfers.MayWaits (thr d L) (default : HIx 1) O
        ∗ ((xLoc d ↦{q0} X) ∗ (xLoc d ↦{q1} X) ∗ (xLoc d ↦{q2} X) ∗ (xLoc d ↦{q3} X))
        ∗ (pLoc d ↦{qp} (P : Buf (Elt F) (pLoc d)))
        ∗ (oLoc d ↦[rows (base L) (base L + 512)]{fullShare} Y0) ∗ (lLoc d ↦[lrows (base L) (base L + 512)]{fullShare} (Z0 : Buf (Elt F) (lLoc d)))
        ∗ Bufs d L ∗ Sems d L ∗ owesI d L O W)
      ⊢ wp frame (wpE (defs₀ (F := F)) 𝒱₀ (thr d L) none) Set.univ
          (cc0__body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
       outV0 (Memref.isWhole_whole _) outV1 (Memref.isWhole_whole _) outV2 (Memref.isWhole_whole _) outV3 (Memref.isWhole_whole _)
       cc0_scratch10 cc0_scratch11 cc0_scratch12 cc0_scratch13 cc0_scratch14 cc0_scratch15 cc0_scratch16 cc0_scratch17 cc0_scoped0 cc0_scoped1)
          fun _ => iprop(((xLoc d ↦{q0} X) ∗ (xLoc d ↦{q1} X) ∗ (xLoc d ↦{q2} X) ∗ (xLoc d ↦{q3} X))
            ∗ (pLoc d ↦{qp} (P : Buf (Elt F) (pLoc d)))
            ∗ (oLoc d ↦[rows (base L) (base L + 512)]{fullShare} Y) ∗ (lLoc d ↦[lrows (base L) (base L + 512)]{fullShare} ((fun _ => zval (F := F)) : Buf (Elt F) (lLoc d)))
            ∗ Bufs d L ∗ Sems d L ∗ owesI d L O W) := by
  rw [body_eq, wp_bind, part3_eq]
  unfold Bufs Sems
  iintro ⟨#Hmw, ⟨Hx0, Hx1, Hx2, Hx3⟩, HP, HR, Hl, ⟨⟨%fp, Hp⟩, ⟨%fz, Hz⟩, Hi0, Hi1, Hi2, Hi3, Ho0, Ho1, Ho2, Ho3⟩,
    ⟨HsA, HsB, Hs0, Hs1, Hs2, Hs3, Ht0, Ht1, Ht2, Ht3⟩, HO⟩
  -- the permutation
  iapply (wp_fetch d L qp P fp O W) $$ [HP Hp HsA HO]
  · isplitl [HP]; · iexact HP
    isplitl [Hp]; · iexact Hp
    isplitl [HsA]; · iexact HsA
    isplitl [HO]; · iexact HO
    iexact Hmw
  iintro ⟨HP, Hp, HsA, HO⟩
  -- the first chunks' copies in
  iapply (wp_startIn d L X q0 inV0 sI0 (hoff := k0_off1_inb L 0) 0 (off1_base L 0) (off1_col L 0)) $$ [Hx0 Hi0 Hs0]
  · unfold InIdle
    isplitl [Hi0]; · iexact Hi0
    isplitl [Hx0]; · iexact Hx0
    iexact Hs0
  iintro Hi0
  iapply (wp_startIn d L X q1 inV1 sI1 (hoff := k0_off1_inb L 1) 1 (off1_base L 1) (off1_col L 1)) $$ [Hx1 Hi1 Hs1]
  · unfold InIdle
    isplitl [Hi1]; · iexact Hi1
    isplitl [Hx1]; · iexact Hx1
    iexact Hs1
  iintro Hi1
  iapply (wp_startIn d L X q2 inV2 sI2 (hoff := k0_off1_inb L 2) 2 (off1_base L 2) (off1_col L 2)) $$ [Hx2 Hi2 Hs2]
  · unfold InIdle
    isplitl [Hi2]; · iexact Hi2
    isplitl [Hx2]; · iexact Hx2
    iexact Hs2
  iintro Hi2
  iapply (wp_startIn d L X q3 inV3 sI3 (hoff := k0_off1_inb L 3) 3 (off1_base L 3) (off1_col L 3)) $$ [Hx3 Hi3 Hs3]
  · unfold InIdle
    isplitl [Hi3]; · iexact Hi3
    isplitl [Hx3]; · iexact Hx3
    iexact Hs3
  iintro Hi3
  -- the zeros
  iapply (Scf.wp_for_bind frame (wpE (defs₀ (F := F)) 𝒱₀ (thr d L) none) Set.univ _ _ _ k0_t1_ok ⟨⟩ (zBody L) (zInv d L) (wp_zTrip d L)) $$ [Hz]
  · unfold zInv
    iexists fz
    isplitr; swap; · iexact Hz
    ipureintro; intro y hy; omega
  iintro %acc Hz
  unfold zInv
  icases Hz with ⟨%fz', %hz, Hz⟩
  have hz' : ∀ y, (zV).view.read (Elt F) fz' y = zval (F := F) := fun y => hz y (by
    rw [trips1]; have : (y 0).val < 512 := (y 0).isLt; omega)
  iapply (wp_zeros d L fz' Z0 hz' O W) $$ [Hl Hz HsB HO]
  · isplitl [Hl]; · iexact Hl
    isplitl [Hz]; · iexact Hz
    isplitl [HsB]; · iexact HsB
    isplitl [HO]; · iexact HO
    iexact Hmw
  iintro ⟨Hl, Hz, HsB, HO⟩
  -- the trips
  have hpm : (pmV).view.read (Elt F) (P : Buf (Elt F) ((pmV).view.loc (thr d L))) = P := View.read_whole _ _
  iapply (Scf.wp_for_bind frame (wpE (defs₀ (F := F)) 𝒱₀ (thr d L) none) Set.univ _ _ _ k0_t2_ok ⟨⟩ (mainBody L (row0 L))
    (MainInv d L X Y Y0 q0 q1 q2 q3 P O W) (fun g acc => wp_mainTrip d L X Y Y0 q0 q1 q2 q3 P hp hY O W (row0 L) g acc)) $$ [Hp Hi0 Hi1 Hi2 Hi3 Ho0 Ho1 Ho2 Ho3 Ht0 Ht1 Ht2 Ht3 HR HO]
  · unfold MainInv
    rw [inSt_zero, inSt_zero, inSt_zero, inSt_zero, outSt_zero, outSt_zero, outSt_zero, outSt_zero]
    unfold OutIdle
    isplitr; · iexact Hmw
    isplitl [Hp]; · iexact Hp
    isplitl [Hi0]; · iexact Hi0
    isplitl [Ho0 Ht0]
    · isplitl [Ho0]; · iexact Ho0
      iexact Ht0
    isplitl [Hi1]; · iexact Hi1
    isplitl [Ho1 Ht1]
    · isplitl [Ho1]; · iexact Ho1
      iexact Ht1
    isplitl [Hi2]; · iexact Hi2
    isplitl [Ho2 Ht2]
    · isplitl [Ho2]; · iexact Ho2
      iexact Ht2
    isplitl [Hi3]; · iexact Hi3
    isplitl [Ho3 Ht3]
    · isplitl [Ho3]; · iexact Ho3
      iexact Ht3
    isplitl [HR]; · iapply (Entails.of_eq (rest_zero d L Y0).symm); iexact HR
    isplitr; · iapply (done_zero d L Y); iempintro
    iexact HO
  iintro %acc' HI
  rw [show Scf.trips k0_t2_loop.lb k0_t2_loop.ub k0_t2_loop.st = 32 from trips2]
  unfold MainInv
  rw [inSt_last, inSt_last, inSt_last, inSt_last, outSt_last, outSt_last, outSt_last, outSt_last]
  icases HI with ⟨-, Hp, Hi0, Ho0, Hi1, Ho1, Hi2, Ho2, Hi3, Ho3, -, HD, HO⟩
  rw [wp_pure]; imodintro
  -- the last four copies out
  iapply (wp_waitOut d L Y outV0 sO0 (124 + 0) O W) $$ [Ho0 HO]
  · isplitl [Ho0]; · iexact Ho0
    isplitl [HO]; · iexact HO
    iexact Hmw
  iintro ⟨Hc, Ho0, HO⟩
  ihave HD := (done_put d L Y (124 + 0)) $$ [HD Hc]
  · isplitl [HD]; · iexact HD
    iexact Hc
  iapply (wp_waitOut d L Y outV1 sO1 (124 + 1) O W) $$ [Ho1 HO]
  · isplitl [Ho1]; · iexact Ho1
    isplitl [HO]; · iexact HO
    iexact Hmw
  iintro ⟨Hc, Ho1, HO⟩
  ihave HD := (done_put d L Y (124 + 1)) $$ [HD Hc]
  · isplitl [HD]; · iexact HD
    iexact Hc
  iapply (wp_waitOut d L Y outV2 sO2 (124 + 2) O W) $$ [Ho2 HO]
  · isplitl [Ho2]; · iexact Ho2
    isplitl [HO]; · iexact HO
    iexact Hmw
  iintro ⟨Hc, Ho2, HO⟩
  ihave HD := (done_put d L Y (124 + 2)) $$ [HD Hc]
  · isplitl [HD]; · iexact HD
    iexact Hc
  iapply (wp_waitOut d L Y outV3 sO3 (124 + 3) O W) $$ [Ho3 HO]
  · isplitl [Ho3]; · iexact Ho3
    isplitl [HO]; · iexact HO
    iexact Hmw
  iintro ⟨Hc, Ho3, HO⟩
  ihave HD := (done_put d L Y (124 + 3)) $$ [HD Hc]
  · isplitl [HD]; · iexact HD
    iexact Hc
  rw [wp_ret]; imodintro
  unfold InIdle OutIdle
  icases Hi0 with ⟨Hi0, Hx0, Hs0⟩
  icases Ho0 with ⟨Ho0, Ht0⟩
  icases Hi1 with ⟨Hi1, Hx1, Hs1⟩
  icases Ho1 with ⟨Ho1, Ht1⟩
  icases Hi2 with ⟨Hi2, Hx2, Hs2⟩
  icases Ho2 with ⟨Ho2, Ht2⟩
  icases Hi3 with ⟨Hi3, Hx3, Hs3⟩
  icases Ho3 with ⟨Ho3, Ht3⟩
  isplitl [Hx0 Hx1 Hx2 Hx3]
  · isplitl [Hx0]; · iexact Hx0
    isplitl [Hx1]; · iexact Hx1
    isplitl [Hx2]; · iexact Hx2
    iexact Hx3
  isplitl [HP]; · iexact HP
  isplitl [HD]; · iapply (Entails.of_eq (done_last d L Y)); iexact HD
  isplitl [Hl]; · iexact Hl
  isplitl [Hp Hz Hi0 Hi1 Hi2 Hi3 Ho0 Ho1 Ho2 Ho3]
  · isplitl [Hp]; · iexists _; iexact Hp
    isplitl [Hz]; · iexists _; iexact Hz
    isplitl [Hi0]; · iexact Hi0
    isplitl [Hi1]; · iexact Hi1
    isplitl [Hi2]; · iexact Hi2
    isplitl [Hi3]; · iexact Hi3
    isplitl [Ho0]; · iexact Ho0
    isplitl [Ho1]; · iexact Ho1
    isplitl [Ho2]; · iexact Ho2
    iexact Ho3
  isplitl [HsA HsB Hs0 Hs1 Hs2 Hs3 Ht0 Ht1 Ht2 Ht3]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    iexact Ht3
  iexact HO

end Cert.Proof.Perm

end
-- ==== Proof.Split.lean ====
/-
  The operands among the thirty-two tiles: `x` and the permutation as read shares, the two results by their rows.
-/
module

public import proofs.«01_k».proof.Proof.Tile

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Assertions that entail each other are the same. -/
theorem eq_of {P Q : sProp 𝕄} (h : P ⊣⊢ Q) : P = Q := Entails.antisymm h.1 h.2

theorem two_eq (Φ : Fin 2 → sProp 𝕄) : bigSep Finset.univ Φ = iprop(Φ 0 ∗ Φ 1) := bigSep_fin_two Φ

/-- The tile of SparseCore `c`, subcore `i`. -/
def tileOf (c : Fin 2) (i : Fin 16) : grid0.Coords :=
  fun | 0 => c | 1 => i | ⟨_ + 2, h⟩ => absurd h (Nat.not_lt.2 (Nat.le_add_left _ _))

theorem base_tileOf (c : Fin 2) (i : Fin 16) : base (tileOf c i) = 1024 * i.val + 512 * c.val := rfl

/-- Its read share of an array. -/
def tok (c : Fin 2) (i : Fin 16) : PosShare TreeShare := Transfers.shareTok (Transfers.shareTok fullShare 2 c) 16 i

section Shares

variable (ℓ : Loc nD τ sig) (f : Buf (Elt F) ℓ)

/-- What of an array is dealt to no tile. -/
def Kept : sProp 𝕄 :=
  iprop((ℓ ↦{Transfers.shareDrop fullShare 2} f) ∗ (ℓ ↦{Transfers.shareDrop (Transfers.shareTok fullShare 2 0) 16} f)
    ∗ (ℓ ↦{Transfers.shareDrop (Transfers.shareTok fullShare 2 1) 16} f))

/-- An array whole is the tiles' shares of it and what is kept. -/
theorem deal_shares :
    (ℓ ↦{fullShare} f : sProp 𝕄)
      ⊣⊢ iprop(Kept ℓ f ∗ (bigSep Finset.univ fun i : Fin 16 => ℓ ↦{tok 0 i} f) ∗ (bigSep Finset.univ fun i : Fin 16 => ℓ ↦{tok 1 i} f)) := by
  have h := eq_of (Transfers.pointsTo_toks (ℓ := ℓ) (S := Finset.univ) (f := f) (nD := nD) (τ := τ) (sig := sig) (Ix := HIx 1) (Val := Elt F) (Name := ℕ) (U := UU) (Lvl := ℕ) fullShare 2)
  have h0 := eq_of (Transfers.pointsTo_toks (ℓ := ℓ) (S := Finset.univ) (f := f) (nD := nD) (τ := τ) (sig := sig) (Ix := HIx 1) (Val := Elt F) (Name := ℕ) (U := UU) (Lvl := ℕ) (Transfers.shareTok fullShare 2 0) 16)
  have h1 := eq_of (Transfers.pointsTo_toks (ℓ := ℓ) (S := Finset.univ) (f := f) (nD := nD) (τ := τ) (sig := sig) (Ix := HIx 1) (Val := Elt F) (Name := ℕ) (U := UU) (Lvl := ℕ) (Transfers.shareTok fullShare 2 1) 16)
  rw [h, two_eq, h0, h1]
  unfold Kept tok
  constructor
  · iintro ⟨Ha, ⟨Hb, H0⟩, Hc, H1⟩
    isplitl [Ha Hb Hc]
    · isplitl [Ha]; · iexact Ha
      isplitl [Hb]; · iexact Hb
      iexact Hc
    isplitl [H0]; · iexact H0
    iexact H1
  · iintro ⟨⟨Ha, Hb, Hc⟩, H0, H1⟩
    isplitl [Ha]; · iexact Ha
    isplitl [Hb H0]
    · isplitl [Hb]; · iexact Hb
      iexact H0
    isplitl [Hc]; · iexact Hc
    iexact H1

end Shares

/-- The rows of a result by the pair of tiles, and each pair's by its two. -/
theorem deal_rows (d : Dev nD) (f : Buf (Elt F) (oLoc d)) :
    (oLoc d ↦{fullShare} f : sProp 𝕄)
      = iprop((bigSep Finset.univ fun i : Fin 16 => oLoc d ↦[rows (base (tileOf 0 i)) (base (tileOf 0 i) + 512)]{fullShare} f)
        ∗ (bigSep Finset.univ fun i : Fin 16 => oLoc d ↦[rows (base (tileOf 1 i)) (base (tileOf 1 i) + 512)]{fullShare} f)) := by
  have hd : ∀ i ∈ (Finset.univ : Finset (Fin 16)), ∀ j ∈ (Finset.univ : Finset (Fin 16)), i ≠ j →
      Disjoint (rows (1024 * i.val) (1024 * i.val + 1024)) (rows (1024 * j.val) (1024 * j.val + 1024)) := by
    intro i _ j _ h
    refine Finset.disjoint_left.mpr fun x hx hy => h (Fin.ext ?_)
    rw [mem_rows] at hx hy; omega
  have hc : (Finset.univ : Finset (Fin 16)).biUnion (fun i => rows (1024 * i.val) (1024 * i.val + 1024)) = Finset.univ := by
    refine Finset.eq_univ_iff_forall.mpr fun x => Finset.mem_biUnion.mpr ?_
    have hx : (x 0).val < 16384 := (x 0).isLt
    exact ⟨⟨(x 0).val / 1024, by omega⟩, Finset.mem_univ _, mem_rows.mpr ⟨by show 1024 * ((x 0).val / 1024) ≤ _; omega, by show _ < 1024 * ((x 0).val / 1024) + 1024; omega⟩⟩
  rw [← hc, pointsTo_biUnion Finset.univ (ℓ := oLoc d) _ hd, ← bigSep_sep']
  refine bigSep_congr fun i _ => ?_
  rw [← rows_union (a := 1024 * i.val) (b := 1024 * i.val + 512) (c := 1024 * i.val + 1024) (by omega) (by omega)]
  exact eq_of (pointsTo_union (rows_disjoint (le_refl _)))

theorem deal_lrows (d : Dev nD) (f : Buf (Elt F) (lLoc d)) :
    (lLoc d ↦{fullShare} f : sProp 𝕄)
      = iprop((bigSep Finset.univ fun i : Fin 16 => lLoc d ↦[lrows (base (tileOf 0 i)) (base (tileOf 0 i) + 512)]{fullShare} f)
        ∗ (bigSep Finset.univ fun i : Fin 16 => lLoc d ↦[lrows (base (tileOf 1 i)) (base (tileOf 1 i) + 512)]{fullShare} f)) := by
  have hd : ∀ i ∈ (Finset.univ : Finset (Fin 16)), ∀ j ∈ (Finset.univ : Finset (Fin 16)), i ≠ j →
      Disjoint (lrows (1024 * i.val) (1024 * i.val + 1024)) (lrows (1024 * j.val) (1024 * j.val + 1024)) := by
    intro i _ j _ h
    refine Finset.disjoint_left.mpr fun x hx hy => h (Fin.ext ?_)
    rw [mem_lrows] at hx hy; omega
  have hc : (Finset.univ : Finset (Fin 16)).biUnion (fun i => lrows (1024 * i.val) (1024 * i.val + 1024)) = Finset.univ := by
    refine Finset.eq_univ_iff_forall.mpr fun x => Finset.mem_biUnion.mpr ?_
    have hx : (x 0).val < 16384 := (x 0).isLt
    exact ⟨⟨(x 0).val / 1024, by omega⟩, Finset.mem_univ _, mem_lrows.mpr ⟨by show 1024 * ((x 0).val / 1024) ≤ _; omega, by show _ < 1024 * ((x 0).val / 1024) + 1024; omega⟩⟩
  have hu (a : Nat) : lrows a (a + 1024) = lrows a (a + 512) ∪ lrows (a + 512) (a + 512 + 512) := by
    ext x; rw [Finset.mem_union, mem_lrows, mem_lrows, mem_lrows]; omega
  have hj (a : Nat) : Disjoint (lrows a (a + 512)) (lrows (a + 512) (a + 512 + 512)) :=
    Finset.disjoint_left.mpr fun x hx hy => by rw [mem_lrows] at hx hy; omega
  rw [← hc, pointsTo_biUnion Finset.univ (ℓ := lLoc d) _ hd, ← bigSep_sep']
  refine bigSep_congr fun i _ => ?_
  rw [hu]
  exact eq_of (pointsTo_union (hj _))

section All

variable (d : Dev nD) (X : S16384x2048.Idx → F .f32) (P : S2048.Idx → BitVec 32) (Y : S16384x2048.Idx → F .f32) (Z : S16384.Idx → F .f32)

/-- What the tiles of SparseCore `c` hold of the arrays. -/
def CoreArrays (c : Fin 2) : sProp 𝕄 := bigSep Finset.univ fun i : Fin 16 => Arrays d (tileOf c i) (tok c i) (tok c i) X P Y Z

theorem coreArrays_eq (c : Fin 2) :
    CoreArrays d X P Y Z c
      = iprop((bigSep Finset.univ fun i : Fin 16 => xLoc d ↦{tok c i} (X : Buf (Elt F) (xLoc d))) ∗ (bigSep Finset.univ fun i : Fin 16 => pLoc d ↦{tok c i} (P : Buf (Elt F) (pLoc d)))
        ∗ (bigSep Finset.univ fun i : Fin 16 => oLoc d ↦[rows (base (tileOf c i)) (base (tileOf c i) + 512)]{fullShare} (Y : Buf (Elt F) (oLoc d)))
        ∗ (bigSep Finset.univ fun i : Fin 16 => lLoc d ↦[lrows (base (tileOf c i)) (base (tileOf c i) + 512)]{fullShare} (Z : Buf (Elt F) (lLoc d)))) := by
  unfold CoreArrays Arrays
  rw [bigSep_sep', bigSep_sep', bigSep_sep']

/-- The four arrays whole are what the two SparseCores' tiles hold of them, and what of the operands is kept. -/
theorem deal_all :
    iprop((xLoc d ↦{fullShare} (X : Buf (Elt F) (xLoc d))) ∗ (pLoc d ↦{fullShare} (P : Buf (Elt F) (pLoc d)))
        ∗ (oLoc d ↦{fullShare} (Y : Buf (Elt F) (oLoc d))) ∗ (lLoc d ↦{fullShare} (Z : Buf (Elt F) (lLoc d))))
      ⊣⊢ iprop((Kept (xLoc d) (X : Buf (Elt F) (xLoc d)) ∗ Kept (pLoc d) (P : Buf (Elt F) (pLoc d))) ∗ CoreArrays d X P Y Z 0 ∗ CoreArrays d X P Y Z 1) := by
  rw [eq_of (deal_shares (xLoc d) (X : Buf (Elt F) (xLoc d))), eq_of (deal_shares (pLoc d) (P : Buf (Elt F) (pLoc d))),
    deal_rows, deal_lrows, coreArrays_eq, coreArrays_eq]
  constructor
  · iintro ⟨⟨HK, Hx0, Hx1⟩, ⟨HK', Hp0, Hp1⟩, ⟨Ho0, Ho1⟩, Hl0, Hl1⟩
    isplitl [HK HK']
    · isplitl [HK]; · iexact HK
      iexact HK'
    isplitl [Hx0 Hp0 Ho0 Hl0]
    · isplitl [Hx0]; · iexact Hx0
      isplitl [Hp0]; · iexact Hp0
      isplitl [Ho0]; · iexact Ho0
      iexact Hl0
    isplitl [Hx1]; · iexact Hx1
    isplitl [Hp1]; · iexact Hp1
    isplitl [Ho1]; · iexact Ho1
    iexact Hl1
  · iintro ⟨⟨HK, HK'⟩, ⟨Hx0, Hp0, Ho0, Hl0⟩, Hx1, Hp1, Ho1, Hl1⟩
    isplitl [HK Hx0 Hx1]
    · isplitl [HK]; · iexact HK
      isplitl [Hx0]; · iexact Hx0
      iexact Hx1
    isplitl [HK' Hp0 Hp1]
    · isplitl [HK']; · iexact HK'
      isplitl [Hp0]; · iexact Hp0
      iexact Hp1
    isplitl [Ho0 Ho1]
    · isplitl [Ho0]; · iexact Ho0
      iexact Ho1
    isplitl [Hl0]; · iexact Hl0
    iexact Hl1

end All

end Cert.Proof.Perm

end
-- ==== Proof.Task.lean ====
/-
  A tile's obligation in the launch: its own scratch and semaphores among those the launch deals it, and its work on what the
  call hands it.
-/
module

public import proofs.«01_k».proof.Proof.Split

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

theorem ten_eq (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem four_eq (Φ : Fin 4 → sProp 𝕄) : bigSep Finset.univ Φ = iprop(Φ 0 ∗ Φ 1 ∗ Φ 2 ∗ Φ 3) := by
  rw [show (Finset.univ : Finset (Fin 4)) = {0, 1, 2, 3} from by decide,
    SparseCore.bigSep_insert' (by decide), SparseCore.bigSep_insert' (by decide), SparseCore.bigSep_insert' (by decide), bigSep_singleton]

/-- Members picked out of a family by an injection stand beside the rest of it. -/
theorem pick_out {I : Type} (S : Finset I) (e : Fin 10 ↪ I) (h : ∀ k, e k ∈ S) (Φ : I → sProp 𝕄) :
    ∃ R : sProp 𝕄, bigSep S Φ = iprop((bigSep Finset.univ fun k => Φ (e k)) ∗ R) := by
  classical
  refine ⟨bigSep (S \ Finset.univ.map e) Φ, ?_⟩
  rw [← bigSep_map e]
  exact bigSep_sdiff_split fun x hx => by
    obtain ⟨k, -, rfl⟩ := Finset.mem_map.mp hx
    exact h k

/-- The tile's scratch buffers and semaphores, listed. -/
def scr : Fin 10 → Ref sig .scVector :=
  ![cc0_scratch0, cc0_scratch1, cc0_scratch2, cc0_scratch3, cc0_scratch4, cc0_scratch5, cc0_scratch6, cc0_scratch7, cc0_scratch8, cc0_scratch9]
theorem scr_inj : Function.Injective scr := by decide
def sms : Fin 10 → SemLoc sig :=
  ![.dma sA, .dma sB, .dma sI0, .dma sI1, .dma sI2, .dma sI3, .dma sO0, .dma sO1, .dma sO2, .dma sO3]
theorem sms_inj : Function.Injective sms := by decide
theorem sms_scoped : ∀ k, (sms k).isScoped .scVector = true := by decide

/-- The scratch is among the buffers the launch deals the tile. -/
theorem ownBufs_split : ∃ R : sProp 𝕄, (ownBufs (thr d L) : sProp 𝕄) = iprop(Bufs d L ∗ R) := by
  have he : Function.Injective fun k => (Proc.scVector (τ := τ) (cV L) (jV L)).devRef (scr k) := fun a b h => scr_inj (Proc.devRef_injective _ h)
  obtain ⟨R, hR⟩ := pick_out (F := F) (ownRefs (τ := τ) (.scVector (cV L) (jV L))) ⟨_, he⟩
    (fun k => SparseCore.Cfg.mem_ownRefs_of_owner (p := Proc.scVector (cV L) (jV L)) (b := (Proc.scVector (cV L) (jV L)).devRef (scr k)) (by
      revert k; intro k; fin_cases k <;> rfl))
    (fun b => iprop(∃ f, ((d, b) : Loc nD τ sig) ↦{fullShare} f))
  refine ⟨R, ?_⟩
  unfold SparseCore.Cfg.ownBufs
  refine hR.trans ?_
  rw [ten_eq]
  rfl

/-- Its semaphores are among the cells the launch deals it. -/
theorem ownSems_split : ∃ R : sProp 𝕄, (ownSems0 (thr d L) : sProp 𝕄) = iprop(Sems d L ∗ R) := by
  have he : Function.Injective fun k => ((thr d L, sms k) : GSem nD τ sig) := fun a b h => sms_inj (Prod.mk.inj h).2
  obtain ⟨R, hR⟩ := pick_out (F := F) (ownCells (thr d L)) ⟨_, he⟩
    (fun k => (mem_ownCells (g := (thr d L, sms k))).mpr ⟨rfl, sms_scoped k⟩) (fun g => semVal g 0)
  refine ⟨R, ?_⟩
  unfold SparseCore.Cfg.ownSems0
  refine hR.trans ?_
  rw [ten_eq]
  rfl

set_option maxHeartbeats 4000000 in
/-- The tile's work as the launch asks for it. -/
theorem tile_body (qx qp : PosShare TreeShare) (X Y Y0 : S16384x2048.Idx → F .f32) (P : S2048.Idx → BitVec 32) (hp : InCols P) (hY : Y = outV P hp X)
    (Z0 : S16384.Idx → F .f32) (hF : (K (F := F)).Facts) (O : CellTallies nD τ sig (HIx 1)) (W : Waits sig (HIx 1)) (hO : ∀ g, O g none = 0) :
    iprop(levAts (K (F := F)).L (K (F := F)).lev ∗ emp ∗ Arrays d L qx qp X P Y0 Z0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
            outV0 (Memref.isWhole_whole _) outV1 (Memref.isWhole_whole _) outV2 (Memref.isWhole_whole _) outV3 (Memref.isWhole_whole _)
            cc0_scratch10 cc0_scratch11 cc0_scratch12 cc0_scratch13 cc0_scratch14 cc0_scratch15 cc0_scratch16 cc0_scratch17 cc0_scoped0 cc0_scoped1)
          fun _ => iprop(Arrays d L qx qp X P Y (fun _ => zval (F := F))
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RB, hB⟩ := ownBufs_split (F := F) d L
  obtain ⟨RS, hS⟩ := ownSems_split (F := F) d L
  rw [(K (F := F)).scopedBufs_V hF d (cV L) (jV L), SparseCore.Cfg.scopedSems0_V (Val := Elt F) d (cV L) (jV L), hB, hS]
  unfold Arrays
  have ht := eq_of (Transfers.pointsTo_toks (ℓ := xLoc d) (S := Finset.univ) (f := (X : Buf (Elt F) (xLoc d))) (nD := nD) (τ := τ) (sig := sig) (Ix := HIx 1) (Val := Elt F) (Name := ℕ) (U := UU) (Lvl := ℕ) qx 4)
  rw [four_eq] at ht
  rw [ht]
  generalize hprog : cc0__body (F := F) L xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
            outV0 (Memref.isWhole_whole _) outV1 (Memref.isWhole_whole _) outV2 (Memref.isWhole_whole _) outV3 (Memref.isWhole_whole _)
            cc0_scratch10 cc0_scratch11 cc0_scratch12 cc0_scratch13 cc0_scratch14 cc0_scratch15 cc0_scratch16 cc0_scratch17 cc0_scoped0 cc0_scoped1 = prog
  have hw := wp_tile d L X Y Y0 (Transfers.shareTok qx 4 0) (Transfers.shareTok qx 4 1) (Transfers.shareTok qx 4 2) (Transfers.shareTok qx 4 3) qp P hp hY Z0 O W
  rw [hprog] at hw
  iintro ⟨#Hlv, -, ⟨⟨Hd, Hx⟩, HP, Ho, Hl⟩, ⟨HB, HRB⟩, ⟨HS, HRS⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame (wpE (defs₀ (F := F)) 𝒱₀ (thr d L) none)) $$ [Hx HP Ho Hl HB HS HO]
  · iapply hw
    isplitr; · iexact Hmw
    isplitl [Hx]; · iexact Hx
    isplitl [HP]; · iexact HP
    isplitl [Ho]; · iexact Ho
    isplitl [Hl]; · iexact Hl
    isplitl [HB]; · iexact HB
    isplitl [HS]; · iexact HS
    unfold owesI
    iexists W
    isplitr; swap; · iexact HO
    ipureintro; exact fun p hp => .inl hp
  iintro %r ⟨Hx, HP, Ho, Hl, HB, HS, HO⟩
  isplitl [Hd Hx HP Ho Hl]
  · isplitl [Hd Hx]
    · isplitl [Hd]; · iexact Hd
      iexact Hx
    isplitl [HP]; · iexact HP
    isplitl [Ho]; · iexact Ho
    iexact Hl
  isplitl [HB HRB]
  · isplitl [HB]; · iexact HB
    iexact HRB
  isplitl [HS HRS]
  · isplitl [HS]; · iexact HS
    iexact HRS
  unfold owesI
  iexact HO

end Cert.Proof.Perm

end
-- ==== Proof.Launch.lean ====
/-
  The kernel's launch and its run: every result at its value, both operands as they were.
-/
module

public import proofs.«01_k».proof.Proof.Task

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the proof asks of the launch memory: every entry of the permutation is a column. -/
def PreOK : Prop := ∀ d : Dev nD, InCols (m (pLoc d) : S2048.Idx → BitVec 32)

variable (hpre : PreOK m)

/-- The operands at the launch, the results there and at the end. -/
abbrev X0 (d : Dev nD) : S16384x2048.Idx → F .f32 := m (xLoc d)
abbrev P0 (d : Dev nD) : S2048.Idx → BitVec 32 := m (pLoc d)
abbrev Y0 (d : Dev nD) : S16384x2048.Idx → F .f32 := m (oLoc d)
abbrev Z0 (d : Dev nD) : S16384.Idx → F .f32 := m (lLoc d)
abbrev Y1 (d : Dev nD) : S16384x2048.Idx → F .f32 := outV (P0 m d) (hpre d) (X0 m d)
abbrev Z1 : S16384.Idx → F .f32 := fun _ => zval (F := F)

/-- The tile of a call's core and subcore. -/
abbrev cc (c : Fin ((K (F := F)).nCore 0)) : Fin 2 := Fin.cast nCore_zero c
abbrev ii (i : Fin ((K (F := F)).nSub 0)) : Fin 16 := Fin.cast nSub_zero i

/-- A tile's part of the arrays before its work and after. -/
def goA (d : Dev nD) (c : Fin 2) (i : Fin 16) : sProp 𝕄 := Arrays d (tileOf c i) (tok c i) (tok c i) (X0 m d) (P0 m d) (Y0 m d) (Z0 m d)
def tdA (d : Dev nD) (c : Fin 2) (i : Fin 16) : sProp 𝕄 := Arrays d (tileOf c i) (tok c i) (tok c i) (X0 m d) (P0 m d) (Y1 m hpre d) Z1

/-- What the handshakes carry: a SparseCore's tiles' parts, each tile's its own. -/
def P : (K (F := F)).Pay (nD := nD) (Val := Elt F) (Name := ℕ) (U := UU) where
  st := fun q d c => match q with | 0 => bigSep Finset.univ fun i : Fin 16 => goA m d (cc c) i
  dn := fun q d c => match q with | 0 => bigSep Finset.univ fun i : Fin 16 => tdA m hpre d (cc c) i
  go := fun q d c i => match q with | 0 => goA m d (cc c) (ii i)
  td := fun q d c i => match q with | 0 => tdA m hpre d (cc c) (ii i)
  x := fun _ _ => iprop(emp)

instance arrays_storable (d : Dev nD) (L : grid0.Coords) (qx qp : PosShare TreeShare) (X : S16384x2048.Idx → F .f32) (Pm : S2048.Idx → BitVec 32)
    (Y : S16384x2048.Idx → F .f32) (Z : S16384.Idx → F .f32) : BI.Storable (upEmb : UEmb _ 𝕄) (Arrays d L qx qp X Pm Y Z) := by
  unfold Arrays; infer_instance
instance goA_storable (d : Dev nD) (c : Fin 2) (i : Fin 16) : BI.Storable (upEmb : UEmb _ 𝕄) (goA m d c i) := by unfold goA; infer_instance
instance tdA_storable (d : Dev nD) (c : Fin 2) (i : Fin 16) : BI.Storable (upEmb : UEmb _ 𝕄) (tdA m hpre d c i) := by unfold tdA; infer_instance

instance P_storable : (P m hpre).IsStorable where
  st q d c := match q with
    | 0 => (inferInstance : BI.Storable (upEmb : UEmb _ 𝕄) (bigSep Finset.univ fun i : Fin 16 => goA m d (cc c) i))
  dn q d c := match q with
    | 0 => (inferInstance : BI.Storable (upEmb : UEmb _ 𝕄) (bigSep Finset.univ fun i : Fin 16 => tdA m hpre d (cc c) i))
  go q d c i := match q with
    | 0 => (inferInstance : BI.Storable (upEmb : UEmb _ 𝕄) (goA m d (cc c) (ii i)))
  td q d c i := match q with
    | 0 => (inferInstance : BI.Storable (upEmb : UEmb _ 𝕄) (tdA m hpre d (cc c) (ii i)))

/-! ## The tiles -/

theorem defs₀_vector (c : Fin τ.nSC) (s : Fin τ.nSub) :
    defs₀ (F := F) (.scVector c s) 0 ()
      = SparseCore.onTile hcore0 hsub0 (fun c s => cc0__body (F := F) (tileOf c s) xV (Memref.isWhole_whole _) pV (Memref.isWhole_whole _) oV (Memref.isWhole_whole _) lV (Memref.isWhole_whole _) pmV (Memref.isWhole_whole _) zV (Memref.isWhole_whole _) inV0 (Memref.isWhole_whole _) inV1 (Memref.isWhole_whole _) inV2 (Memref.isWhole_whole _) inV3 (Memref.isWhole_whole _)
            outV0 (Memref.isWhole_whole _) outV1 (Memref.isWhole_whole _) outV2 (Memref.isWhole_whole _) outV3 (Memref.isWhole_whole _)
            cc0_scratch10 cc0_scratch11 cc0_scratch12 cc0_scratch13 cc0_scratch14 cc0_scratch15 cc0_scratch16 cc0_scratch17 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tileOf (cc c) (ii i)) (tok (cc c) (ii i)) (tok (cc c) (ii i)) (X0 m d) (Y1 m hpre d) (Y0 m d) (P0 m d) (hpre d) rfl (Z0 m d) hF O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's call is its tiles' parts, and they are its return. -/
theorem vecSplit : (K (F := F)).VecSplit' (P m hpre) 0 := by
  intro d c
  show (bigSep Finset.univ fun i : Fin 16 => goA m d (cc c) i) ⊢ |={Set.univ}=> iprop(
      (bigSep Finset.univ fun i : Fin ((K (F := F)).nSub 0) => goA m d (cc c) (Fin.cast nSub_zero i))
      ∗ ((bigSep Finset.univ fun i : Fin ((K (F := F)).nSub 0) => tdA m hpre d (cc c) (Fin.cast nSub_zero i))
          -∗ bigSep Finset.univ fun i : Fin 16 => tdA m hpre d (cc c) i))
  rw [bigSep_tasks (F := F) (fun i => goA m d (cc c) i), bigSep_tasks (F := F) (fun i => tdA m hpre d (cc c) i)]
  iintro H; imodintro
  isplitl [H]; · iexact H
  iintro H; iexact H

/-! ## The launch's ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P m hpre).x q thr) = bigSep Finset.univ fun _ => iprop(emp) from
    bigSep_congr fun _ _ => bigSep_univ_of_subsingleton (0 : Fin 1), emps]
  iempintro

/-! ## The main program -/

theorem unscopedBufs_eq (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1)
      ∗ (oLoc d ↦{fullShare} W main_v0_0) ∗ (lLoc d ↦{fullShare} W main_v0_1)) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

theorem st0_eq (d : Dev nD) : (bigSep Finset.univ fun c : Fin ((K (F := F)).nCore 0) => (P m hpre).st 0 d c)
    = iprop(CoreArrays d (X0 m d) (P0 m d) (Y0 m d) (Z0 m d) 0 ∗ CoreArrays d (X0 m d) (P0 m d) (Y0 m d) (Z0 m d) 1) :=
  two_eq fun c => CoreArrays d (X0 m d) (P0 m d) (Y0 m d) (Z0 m d) c
theorem dn0_eq (d : Dev nD) : (bigSep Finset.univ fun c : Fin ((K (F := F)).nCore 0) => (P m hpre).dn 0 d c)
    = iprop(CoreArrays d (X0 m d) (P0 m d) (Y1 m hpre d) Z1 0 ∗ CoreArrays d (X0 m d) (P0 m d) (Y1 m hpre d) Z1 1) :=
  two_eq fun c => CoreArrays d (X0 m d) (P0 m d) (Y1 m hpre d) Z1 c

/-- The four arrays at the end. -/
abbrev FIN (d : Dev nD) : sProp 𝕄 :=
  iprop((xLoc d ↦{fullShare} (X0 m d : Buf (Elt F) (xLoc d))) ∗ (pLoc d ↦{fullShare} (P0 m d : Buf (Elt F) (pLoc d)))
    ∗ (oLoc d ↦{fullShare} (Y1 m hpre d : Buf (Elt F) (oLoc d))) ∗ (lLoc d ↦{fullShare} (Z1 : Buf (Elt F) (lLoc d))))

/-- The one call, from the four arrays whole and back to them. -/
theorem hmain (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd
  rw [unscopedBufs_eq]
  simp only [main, wp_bind, wp_pure]
  iintro ⟨#Hctx, Hst, ⟨Hb, HA, Hts, -⟩, -⟩
  ihave HA' := (deal_all d (X0 m d) (P0 m d) (Y0 m d) (Z0 m d)).1 $$ HA
  icases HA' with ⟨HK, HA⟩
  iapply ((K (F := F)).wp_run (D (F := F)) 𝒱 (EH := EH) (P := P m hpre) κ d 0) $$ [Hst HA HK Hb Hts]
  isplitr; · iexact Hctx
  isplitl [Hst]; · iexact Hst
  isplitl [HA]
  · rw [st0_eq]; iexact HA
  iintro ⟨Hst, Hdn⟩
  ihave Hdn' := (Entails.of_eq (dn0_eq m hpre d)) $$ Hdn
  imodintro
  isplitl [Hst]; · iexact Hst
  isplitr [Hb Hts]
  · iapply (deal_all d (X0 m d) (P0 m d) (Y1 m hpre d) Z1).2
    isplitl [HK]; · iexact HK
    iexact Hdn'
  isplitl [Hb] <;> iassumption

/-- What the arrays hold at the end. -/
def fq (d : Dev nD) (s' : Phys nD τ sig (Elt F)) : Prop :=
  s'.mem.mem (xLoc d) = m (xLoc d) ∧ s'.mem.mem (pLoc d) = m (pLoc d) ∧ s'.mem.mem (oLoc d) = Y1 m hpre d ∧ s'.mem.mem (lLoc d) = (Z1 : S16384.Idx → F .f32)

theorem agree_whole (s' : Phys nD τ sig (Elt F)) (ℓ : Loc nD τ sig) (f : Buf (Elt F) ℓ) :
    iprop(SI s' ∗ (ℓ ↦{fullShare} f)) ⊢ iprop(⌜s'.mem.mem ℓ = f⌝ ∗ (SI s' ∗ (ℓ ↦{fullShare} f)) : sProp 𝕄) := by
  iintro H
  ihave H := (persistent_entails_right (SI_pointsTo_agree (st := s') (ℓ := ℓ) (I := Finset.univ) (q := fullShare) (f := f))) $$ H
  icases H with ⟨%h, H⟩
  isplitr; · ipureintro; exact funext fun i => h i (Finset.mem_univ i)
  iexact H

set_option maxRecDepth 16384 in
theorem hfin (d : Dev nD) (s' : Phys nD τ sig (Elt F)) : iprop(FIN m hpre d ∗ SI s') ⊢ (⌜fq m hpre d s'⌝ : sProp 𝕄) := by
  iintro ⟨⟨Hx, Hp, Ho, Hl⟩, HSI⟩
  ihave H := (agree_whole s' (xLoc d) _) $$ [HSI Hx]
  · isplitl [HSI] <;> iassumption
  icases H with ⟨%h1, HSI, -⟩
  ihave H := (agree_whole s' (pLoc d) _) $$ [HSI Hp]
  · isplitl [HSI] <;> iassumption
  icases H with ⟨%h2, HSI, -⟩
  ihave H := (agree_whole s' (oLoc d) _) $$ [HSI Ho]
  · isplitl [HSI] <;> iassumption
  icases H with ⟨%h3, HSI, -⟩
  ihave H := (agree_whole s' (lLoc d) _) $$ [HSI Hl]
  · isplitl [HSI] <;> iassumption
  icases H with ⟨%h4, -⟩
  ipureintro; exact ⟨h1, h2, h3, h4⟩

/-! ## The run -/

/-- Each device's arrays at the end, and every semaphore at zero. -/
def QC : PUnit × MemSt nD τ sig (Elt F) → Prop := fun r =>
  (∀ c : Dev nD, r.2.mem (xLoc c) = m (xLoc c) ∧ r.2.mem (pLoc c) = m (pLoc c) ∧ r.2.mem (oLoc c) = Y1 m hpre c
    ∧ r.2.mem (lLoc c) = (Z1 : S16384.Idx → F .f32)) ∧ r.2.sem = fun _ => 0

theorem run_main [∀ e, Nonempty (Elt F e)] :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m hpre) (A := ∅) facts v₀
    (fun q hq => match q with | 0 => nomatch hq)
    (fun q _ => match q with | 0 => tileObl m hpre facts)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre) (QC m hpre) (fun _ h hz => ⟨h, hz⟩)

end Cert.Proof.Perm

end
-- ==== Proof.Pre.lean ====
/-
  The precondition read back: every entry of the permutation is the number of a column.
-/
module

public import proofs.«01_k».proof.Defs
public import proofs.«01_k».proof.Proof.Launch
public import proofs.«01_k».proof.Proof.Gen.Pre_perm_in_columns
public import Idealize.ShloMosaic.Lib.ReduceAll

@[expose] public section

noncomputable section

namespace Cert.Proof.Perm

open Idealize.ShloMosaic

/-- A word that is signed at least 0 and signed below 2048 is below 2048. -/
theorem word_lt (w : BitVec 32) (h0 : (0#32).toInt ≤ w.toInt) (h1 : w.toInt < (2048#32).toInt) : w.toNat < 2048 := by
  have e0 : (0#32 : BitVec 32).toInt = 0 := by decide
  have e1 : (2048#32 : BitVec 32).toInt = 2048 := by decide
  rw [e0] at h0
  rw [e1] at h1
  rw [BitVec.toInt_eq_toNat_cond] at h0 h1
  have := w.isLt
  split at h0 <;> omega

attribute [local instance] Cert.Pre_perm_in_columns.Gen.facts in
/-- Where the precondition, a conjunction over all entries, comes out 1, every entry is the number of a column. -/
theorem inCols_of_pre {F : FTy → Type} [FloatOps F] (x : FVec F Cert.Pre_perm_in_columns.S16384x2048 .f32)
    (p : IVec Cert.Pre_perm_in_columns.S2048 32) (h : Cert.Pre_perm_in_columns.fn (F := F) x p = fun _ => 1#1) : InCols p := by
  intro j
  haveI : Subsingleton Cert.Pre_perm_in_columns.S_.Idx := ⟨fun a b => funext fun k => k.elim0⟩
  have e := Host.reduce_andi_all _ _ _ _ _ (congrFun h (fun k => k.elim0)) j
  obtain ⟨a, b⟩ := IntOp.andi_eq_one.1 e
  exact word_lt _ (IntOp.cmpi_sge.1 a) (IntOp.cmpi_slt.1 b)

end Cert.Proof.Perm

end
-- ==== Proof.Value.lean ====
/-
  The reference's results are the kernel's: the gather along the columns is the permuted array, the second result is zeros.
-/
module

public import proofs.«01_k».proof.Proof.Launch
public import proofs.«01_k».proof.Proof.Gen.ReferenceIdeal.Run
public import proofs.«01_k».proof.Proof.Gen.ReferenceIdeal.Read
public import Idealize.ShloMosaic.Lib.Affine

@[expose] public section

noncomputable section

namespace Cert.Proof.Perm

open Idealize.ShloMosaic

section Gather

open Cert.ReferenceIdeal Cert.ReferenceIdeal.Gen

/-- The reference's gather, by its printed dimension numbers. -/
abbrev gdims : GatherDims S16384x2048 S2048x1 S16384x2048 := gather_S16384x2048_S2048x1_S16384x2048_0_1_n_n_1_1_163841

/-- The row of the start indices that entry `j` of the result reads: the entry's column. -/
abbrev startAt (j : S16384x2048.Idx) : S2048x1.Idx := fun | 0 => j 1 | 1 => (0 : Fin 1)

/-- An entry of the gather is the array's, at the same row and at the column that the start indices hold for the entry's column. -/
theorem gather_column {α : Type} (x : S16384x2048.Idx → α) (idx : IVec S2048x1 32) (j : S16384x2048.Idx) (c : Fin 2048)
    (hc : (idx (startAt j)).toInt.toNat = c.val) :
    Host.gather gdims x idx j = x (fun | 0 => j 0 | 1 => c) := by
  refine congrArg x (funext fun a => Fin.ext ?_)
  show gdims.start j idx a + gdims.batchCoord j a + gdims.offCoord j a = _
  rw [gdims.batchCoord_eq_zero j a (by exact List.not_mem_nil), Nat.add_zero]
  match a with
  | 0 =>
    have hs : gdims.start j idx 0 = 0 := by
      unfold GatherDims.start
      exact dif_neg (by decide)
    have ho : gdims.offCoord j 0 = (j 0).val := by
      unfold GatherDims.offCoord
      exact dif_pos (by decide)
    rw [hs, ho, Nat.zero_add]
  | 1 =>
    have hs : gdims.start j idx 1 = min (idx (startAt j)).toInt.toNat (2048 - 1) := by
      unfold GatherDims.start
      refine (dif_pos (by decide)).trans ?_
      have hi : ∀ q, gdims.siIdx j q = startAt j := by
        intro q
        funext b
        match b with
        | 0 => rfl
        | 1 => exact Subsingleton.elim (α := Fin 1) _ _
      rw [hi]
      rfl
    rw [hs, gdims.offCoord_eq_zero j 1 (by decide), hc]
    have := c.isLt
    show min c.val (2048 - 1) + 0 = c.val
    omega

end Gather

open Cert.ReferenceIdeal.Read in
/-- An index that is the number of a column is not moved by the reference's normalisation of negative indices. -/
theorem norm_index {F : FTy → Type} [FloatOps F] (p : Cert.ReferenceIdeal.S2048.Idx → BitVec 32) (hp : InCols p) (i : Cert.ReferenceIdeal.S2048.Idx) :
    val_main_v4 (F := F) p i = p i := by
  have hn : (p i).toInt = (p i).toNat := by
    have := hp i
    rw [BitVec.toInt_eq_toNat_cond]
    split <;> omega
  have h1 : ¬ IntOp.cmpi .slt (p i) 0#32 = 1#1 := by
    rw [IntOp.cmpi_slt, hn]
    have e0 : (0#32 : BitVec 32).toInt = 0 := by decide
    omega
  rw [val_main_v4_apply, val_main_v1_apply, val_main_v0_apply, val_main_c_apply]
  exact if_neg h1

open Cert.ReferenceIdeal.Read in
/-- The reference's first result is the array with its columns permuted. -/
theorem ref_out {F : FTy → Type} [FloatOps F] (x : Cert.ReferenceIdeal.S16384x2048.Idx → F .f32) (p : Cert.ReferenceIdeal.S2048.Idx → BitVec 32)
    (hp : InCols p) : val_main_v6 (F := F) x p = outV p hp x := by
  funext j
  refine gather_column x _ j (colOf p hp (j 1)) ?_
  rw [val_main_v5_apply, norm_index p hp]
  have hn : ∀ i, (p i).toInt.toNat = (p i).toNat := fun i => by
    have := hp i
    rw [BitVec.toInt_eq_toNat_cond]
    split <;> omega
  rw [hn]
  show (p _).toNat = (p _).toNat
  refine congrArg (fun i => (p i).toNat) (funext fun a => ?_)
  match a with
  | 0 => rfl

open Cert.ReferenceIdeal.Read in
/-- The reference's second result is zeros. -/
theorem ref_log {F : FTy → Type} [FloatOps F] : val_main_v7 (F := F) = (Z1 : Cert.ReferenceIdeal.S16384.Idx → F .f32) := by
  funext j
  rw [val_main_v7_apply, val_main_cst_apply]

end Cert.Proof.Perm

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_perm_in_columns
public import proofs.«01_k».proof.Proof.Gen.ReferenceIdeal.Run
public import proofs.«01_k».proof.Proof.Gen.ReferenceIdeal.Read
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem Cert.Proof.Perm

instance : Cert.Kernel.Facts := Cert.Kernel.Gen.facts
instance : Cert.KernelIdeal.Facts := Cert.KernelIdeal.Gen.facts
instance : Cert.ReferenceIdeal.Facts := Cert.ReferenceIdeal.Gen.facts
instance : Cert.Pre_perm_in_columns.Facts := Cert.Pre_perm_in_columns.Gen.facts

/-- The kernel's frame on bits: its text is the idealized kernel's, whose run is proved for any float values. -/
theorem frame_kernel : Cert.quiescent_Kernel := fun m ρ h =>
  (θ_run (Cert.KernelIdeal.defs (F := Bits)) _ _).mono (fun _ h' => ⟨fun c => ⟨(h'.1 c).1, (h'.1 c).2.1⟩, h'.2⟩)
    (run_main (F := Bits) m ρ (fun d => inCols_of_pre _ _ (h d)))

/-- The idealized kernel's frame. -/
theorem frame_ideal : Cert.quiescent_KernelIdeal := fun m ρ h =>
  (θ_run (Cert.KernelIdeal.defs (F := Ideal)) _ _).mono (fun _ h' => ⟨fun c => ⟨(h'.1 c).1, (h'.1 c).2.1⟩, h'.2⟩)
    (run_main (F := Ideal) m ρ (fun d => inCols_of_pre _ _ (h d)))

/-- The reference's frame; it declares no semaphore. -/
theorem frame_reference : Cert.quiescent_ReferenceIdeal := fun m ρ _ =>
  (θ_run (Cert.ReferenceIdeal.defs (F := Ideal)) _ _).mono
    (fun r h => ⟨fun c => ⟨(h c).2.2.1, (h c).2.2.2⟩, Idealize.ShloMosaic.sem_eq_zero_of_no_sems (by decide) r.2⟩)
    (Cert.ReferenceIdeal.Value.run (F := Ideal) m ρ)

/-- The reference's frame where the precondition holds: it holds of every memory. -/
theorem frame_reference_pre : Cert.quiescent_ReferenceIdeal_pre_perm_in_columns := fun m ρ _ => frame_reference m ρ trivial

/-- Both results of the two programs agree: the first is the array with its columns permuted, the second is zeros. -/
theorem algebraic : Cert.algebraic_KernelIdeal_ReferenceIdeal := by
  intro m ρ m' ρ' h hagree
  have hp : PreOK (F := Ideal) m := fun d => inCols_of_pre _ _ (h d)
  refine ⟨fun c => Y1 m hp c, fun _ => (Z1 : Cert.KernelIdeal.S16384.Idx → Ideal .f32),
    (θ_run (Cert.KernelIdeal.defs (F := Ideal)) _ _).mono
      (fun _ h' c => ⟨(h'.1 c).2.2.1, (h'.1 c).2.2.2, (h'.1 c).1, (h'.1 c).2.1⟩) (run_main (F := Ideal) m ρ hp), ?_⟩
  refine (θ_run (Cert.ReferenceIdeal.defs (F := Ideal)) _ _).mono (fun _ h' c => ⟨(h' c).1.trans ?_, (h' c).2.1.trans ?_, (h' c).2.2⟩)
    (Cert.ReferenceIdeal.Value.run (F := Ideal) m' ρ')
  · rw [(hagree c).1, (hagree c).2]
    exact (Cert.ReferenceIdeal.Read.val_main_v6_eq _ _).trans (ref_out _ _ (hp c))
  · exact Cert.ReferenceIdeal.Read.val_main_v7_eq.trans ref_log

theorem claim : Cert.Claim :=
  ⟨Cert.Kernel.Gen.facts, Cert.KernelIdeal.Gen.facts, Cert.ReferenceIdeal.Gen.facts, Cert.Pre_perm_in_columns.Gen.facts,
    frame_kernel, frame_ideal, frame_reference, frame_reference_pre, trivial, algebraic⟩

end Cert.Proof

end
